-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x512 : Shape := ⟨2, ![16384, 512]⟩
abbrev S16x16 : Shape := ⟨2, ![16, 16]⟩
abbrev S16384 : Shape := ⟨1, ![16384]⟩
abbrev S512x512 : Shape := ⟨2, ![512, 512]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x512 .f32) (main_arg1 : FVec F S16x16 .f32) (main_arg2 : IVec S16384 32) (main_arg3 : FVec F S512x512 .f32) : IVec S_ 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 32 := constantI S_ 32 16#32
  let main_v2 : IVec S16384 32 := broadcastInDim S16384 ![] bcast_S_S16384 main_c_0
  let main_v3 : IVec S16384 1 := cmpi .slt main_arg2 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x512 : Shape := ⟨2, ![16384, 512]⟩
abbrev S16x16 : Shape := ⟨2, ![16, 16]⟩
abbrev S16384 : Shape := ⟨1, ![16384]⟩
abbrev S512x512 : Shape := ⟨2, ![512, 512]⟩
abbrev S16384x1 : Shape := ⟨2, ![16384, 1]⟩
abbrev S16x512 : Shape := ⟨2, ![16, 512]⟩
abbrev S1024x512 : Shape := ⟨2, ![1024, 512]⟩
abbrev S1024x1 : Shape := ⟨2, ![1024, 1]⟩
abbrev S16x128 : Shape := ⟨2, ![16, 128]⟩
abbrev S1x1024x1 : Shape := ⟨3, ![1, 1024, 1]⟩
abbrev S1 : Shape := ⟨1, ![1]⟩
abbrev S1x1x1 : Shape := ⟨3, ![1, 1, 1]⟩
abbrev S1x512 : Shape := ⟨2, ![1, 512]⟩
abbrev S512 : Shape := ⟨1, ![512]⟩
abbrev S1x128 : Shape := ⟨2, ![1, 128]⟩
abbrev S16x1 : Shape := ⟨2, ![16, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S16x16, .f32⟩
  | .hbm, ⟨2, _⟩ => ⟨S16384, .i32⟩
  | .hbm, ⟨3, _⟩ => ⟨S512x512, .f32⟩
  | .hbm, ⟨4, _⟩ => ⟨S16384x1, .i32⟩
  | .hbm, ⟨5, _⟩ => ⟨S16x512, .f32⟩
  | .local _ .vmem, ⟨0, _⟩ => ⟨S1024x512, .f32⟩
  | .local _ .vmem, ⟨1, _⟩ => ⟨S1024x512, .f32⟩
  | .local _ .vmem, ⟨2, _⟩ => ⟨S1024x1, .i32⟩
  | .local _ .vmem, ⟨3, _⟩ => ⟨S1024x1, .i32⟩
  | .local _ .vmem, ⟨4, _⟩ => ⟨S512x512, .f32⟩
  | .local _ .vmem, ⟨5, _⟩ => ⟨S16x512, .f32⟩
  | .local _ .vmem, ⟨6, _⟩ => ⟨S16x512, .f32⟩
  | .local _ .vmem, ⟨7, _⟩ => ⟨S16x128, .f32⟩
  | .local _ .vmem, ⟨8, _⟩ => ⟨S16x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg0 : BitVec 32 := BitVec.ofNat 32 (i 0).val
  let c0_i32_6 : BitVec 32 := 0#32
  let v16 : BitVec 1 := Scalar.cmpi .eq arg0 c0_i32_6
  let v17 : BitVec 32 := Scalar.extui v16
  let c0_i32_7 : BitVec 32 := 0#32
  let v18 : BitVec 1 := Scalar.cmpi .ne v17 c0_i32_7
  v18

@[reducible] def k0_t1_loop (v6 : BitVec 32) (v10 : BitVec 32) : Scf.Loop 32 :=
  let c1_i32_9 : BitVec 32 := 1#32
  let v22 : BitVec 32 := Scalar.addi v10 c1_i32_9
  let v23 : BitVec 32 := Scalar.subi v22 v6
  let c1_i32_11 : BitVec 32 := 1#32
  let v25 : BitVec 32 := Scalar.divsi v23 c1_i32_11
  let v26 : BitVec 32 := Scalar.muli v25 c1_i32_11
  let v27 : BitVec 32 := Scalar.addi v6 v26
  let c1_i32_12 : BitVec 32 := 1#32
  ⟨v6, v27, c1_i32_12⟩

def k0_off1 (v6 : BitVec 32) (v10 : BitVec 32) (k0_t1 : Fin (k0_t1_loop v6 v10).trips) : Fin 2 → Nat :=
  let c1_i32_12 : BitVec 32 := 1#32
  let arg9 : BitVec 32 := Scf.iv v6 c1_i32_12 k0_t1
  let v37 : Index := Scalar.indexCast arg9
  let c0_15 : Index := 0#32
  ![v37.toNat, 0]
def k0_off2 (v6 : BitVec 32) (v10 : BitVec 32) (k0_t1 : Fin (k0_t1_loop v6 v10).trips) : Fin 2 → Nat :=
  let c1_i32_12 : BitVec 32 := 1#32
  let arg9 : BitVec 32 := Scf.iv v6 c1_i32_12 k0_t1
  let v48 : Index := Scalar.indexCast arg9
  let c0_18 : Index := 0#32
  ![v48.toNat, 0]
@[reducible] def k0_t2_loop (v6 : BitVec 32) (v10 : BitVec 32) : Scf.Loop 32 :=
  let c1_i32_9 : BitVec 32 := 1#32
  let v22 : BitVec 32 := Scalar.addi v10 c1_i32_9
  let v23 : BitVec 32 := Scalar.subi v22 v6
  let c1_i32_11 : BitVec 32 := 1#32
  let v25 : BitVec 32 := Scalar.divsi v23 c1_i32_11
  let v26 : BitVec 32 := Scalar.muli v25 c1_i32_11
  let v27 : BitVec 32 := Scalar.addi v6 v26
  let v24 : BitVec 32 := Scalar.addi v6 v23
  let c1_i32_13 : BitVec 32 := 1#32
  ⟨v27, v24, c1_i32_13⟩
def k0_off3 (v6 : BitVec 32) (v10 : BitVec 32) (k0_t2 : Fin (k0_t2_loop v6 v10).trips) : Fin 2 → Nat :=
  let c1_i32_9 : BitVec 32 := 1#32
  let v22 : BitVec 32 := Scalar.addi v10 c1_i32_9
  let v23 : BitVec 32 := Scalar.subi v22 v6
  let c1_i32_11 : BitVec 32 := 1#32
  let v25 : BitVec 32 := Scalar.divsi v23 c1_i32_11
  let v26 : BitVec 32 := Scalar.muli v25 c1_i32_11
  let v27 : BitVec 32 := Scalar.addi v6 v26
  let c1_i32_13 : BitVec 32 := 1#32
  let arg9 : BitVec 32 := Scf.iv v27 c1_i32_13 k0_t2
  let v37 : Index := Scalar.indexCast arg9
  let c0_15 : Index := 0#32
  ![v37.toNat, 0]
def k0_off4 (v6 : BitVec 32) (v10 : BitVec 32) (k0_t2 : Fin (k0_t2_loop v6 v10).trips) : Fin 2 → Nat :=
  let c1_i32_9 : BitVec 32 := 1#32
  let v22 : BitVec 32 := Scalar.addi v10 c1_i32_9
  let v23 : BitVec 32 := Scalar.subi v22 v6
  let c1_i32_11 : BitVec 32 := 1#32
  let v25 : BitVec 32 := Scalar.divsi v23 c1_i32_11
  let v26 : BitVec 32 := Scalar.muli v25 c1_i32_11
  let v27 : BitVec 32 := Scalar.addi v6 v26
  let c1_i32_13 : BitVec 32 := 1#32
  let arg9 : BitVec 32 := Scf.iv v27 c1_i32_13 k0_t2
  let v48 : Index := Scalar.indexCast arg9
  let c0_18 : Index := 0#32
  ![v48.toNat, 0]
def k0_cond4 (i : grid0.Coords) : BitVec 1 :=
  let arg0 : BitVec 32 := BitVec.ofNat 32 (i 0).val
  let c1_i32 : BitVec 32 := 1#32
  let v19 : BitVec 1 := Scalar.cmpi .eq arg0 c1_i32
  let v20 : BitVec 32 := Scalar.extui v19
  let c0_i32_8 : BitVec 32 := 0#32
  let v21 : BitVec 1 := Scalar.cmpi .ne v20 c0_i32_8
  v21

@[reducible] def k0_t3_loop (v6 : BitVec 32) (v10 : BitVec 32) : Scf.Loop 32 :=
  let c1_i32_11 : BitVec 32 := 1#32
  let v25 : BitVec 32 := Scalar.addi v10 c1_i32_11
  let v26 : BitVec 32 := Scalar.subi v25 v6
  let c1_i32_13 : BitVec 32 := 1#32
  let v28 : BitVec 32 := Scalar.divsi v26 c1_i32_13
  let v29 : BitVec 32 := Scalar.muli v28 c1_i32_13
  let v30 : BitVec 32 := Scalar.addi v6 v29
  let c1_i32_14 : BitVec 32 := 1#32
  ⟨v6, v30, c1_i32_14⟩
def k0_off5 (v6 : BitVec 32) (v10 : BitVec 32) (k0_t3 : Fin (k0_t3_loop v6 v10).trips) : Fin 2 → Nat :=
  let c1_i32_14 : BitVec 32 := 1#32
  let arg9 : BitVec 32 := Scf.iv v6 c1_i32_14 k0_t3
  let v37 : Index := Scalar.indexCast arg9
  let c0_16 : Index := 0#32
  ![v37.toNat, 0]
@[reducible] def k0_t4_loop (v6 : BitVec 32) (v10 : BitVec 32) : Scf.Loop 32 :=
  let c1_i32_11 : BitVec 32 := 1#32
  let v25 : BitVec 32 := Scalar.addi v10 c1_i32_11
  let v26 : BitVec 32 := Scalar.subi v25 v6
  let c1_i32_13 : BitVec 32 := 1#32
  let v28 : BitVec 32 := Scalar.divsi v26 c1_i32_13
  let v29 : BitVec 32 := Scalar.muli v28 c1_i32_13
  let v30 : BitVec 32 := Scalar.addi v6 v29
  let v27 : BitVec 32 := Scalar.addi v6 v26
  let c1_i32_15 : BitVec 32 := 1#32
  ⟨v30, v27, c1_i32_15⟩
def k0_off6 (v6 : BitVec 32) (v10 : BitVec 32) (k0_t4 : Fin (k0_t4_loop v6 v10).trips) : Fin 2 → Nat :=
  let c1_i32_11 : BitVec 32 := 1#32
  let v25 : BitVec 32 := Scalar.addi v10 c1_i32_11
  let v26 : BitVec 32 := Scalar.subi v25 v6
  let c1_i32_13 : BitVec 32 := 1#32
  let v28 : BitVec 32 := Scalar.divsi v26 c1_i32_13
  let v29 : BitVec 32 := Scalar.muli v28 c1_i32_13
  let v30 : BitVec 32 := Scalar.addi v6 v29
  let c1_i32_15 : BitVec 32 := 1#32
  let arg9 : BitVec 32 := Scf.iv v30 c1_i32_15 k0_t4
  let v37 : Index := Scalar.indexCast arg9
  let c0_16 : Index := 0#32
  ![v37.toNat, 0]

def k0_chk1 (i : grid0.Coords) (v6 : BitVec 32) (v10 : BitVec 32) : Prop :=
  (∀ (k0_h2 : k0_cond2 i = 1#1), (k0_t1_loop v6 v10).OK) ∧
  (∀ k0_t1 : Fin (k0_t1_loop v6 v10).trips, ∀ (k0_h2 : k0_cond2 i = 1#1), ∀ a, (k0_off1 v6 v10 k0_t1) a + S1x512.size a ≤ S16x512.size a) ∧
  (∀ k0_t1 : Fin (k0_t1_loop v6 v10).trips, ∀ (k0_h2 : k0_cond2 i = 1#1), ∀ a, (k0_off2 v6 v10 k0_t1) a + S1x128.size a ≤ S16x128.size a) ∧
  (∀ (k0_h2 : k0_cond2 i = 1#1), (k0_t2_loop v6 v10).OK) ∧
  (∀ k0_t2 : Fin (k0_t2_loop v6 v10).trips, ∀ (k0_h2 : k0_cond2 i = 1#1), ∀ a, (k0_off3 v6 v10 k0_t2) a + S1x512.size a ≤ S16x512.size a) ∧
  (∀ k0_t2 : Fin (k0_t2_loop v6 v10).trips, ∀ (k0_h2 : k0_cond2 i = 1#1), ∀ a, (k0_off4 v6 v10 k0_t2) a + S1x128.size a ≤ S16x128.size a) ∧
  (∀ (k0_h4 : k0_cond4 i = 1#1), (k0_t3_loop v6 v10).OK) ∧
  (∀ k0_t3 : Fin (k0_t3_loop v6 v10).trips, ∀ (k0_h4 : k0_cond4 i = 1#1), ∀ a, (k0_off5 v6 v10 k0_t3) a + S1x512.size a ≤ S16x512.size a) ∧
  (∀ (k0_h4 : k0_cond4 i = 1#1), (k0_t4_loop v6 v10).OK) ∧
  (∀ k0_t4 : Fin (k0_t4_loop v6 v10).trips, ∀ (k0_h4 : k0_cond4 i = 1#1), ∀ a, (k0_off6 v6 v10 k0_t4) a + S1x512.size a ≤ S16x512.size a)
theorem k0_t1_ok : ∀ (i : grid0.Coords) (v6 : BitVec 32) (v10 : BitVec 32) (k0_hw1 : k0_chk1 i v6 v10), ∀ (k0_h2 : k0_cond2 i = 1#1), (k0_t1_loop v6 v10).OK := fun i v6 v10 k0_hw1 k0_h2 => k0_hw1.1 k0_h2
theorem k0_off1_inb : ∀ (i : grid0.Coords) (v6 : BitVec 32) (v10 : BitVec 32) (k0_hw1 : k0_chk1 i v6 v10) (k0_t1 : Fin (k0_t1_loop v6 v10).trips), ∀ (k0_h2 : k0_cond2 i = 1#1), ∀ a, (k0_off1 v6 v10 k0_t1) a + S1x512.size a ≤ S16x512.size a := fun i v6 v10 k0_hw1 k0_t1 k0_h2 => k0_hw1.2.1 k0_t1 k0_h2
theorem k0_off2_inb : ∀ (i : grid0.Coords) (v6 : BitVec 32) (v10 : BitVec 32) (k0_hw1 : k0_chk1 i v6 v10) (k0_t1 : Fin (k0_t1_loop v6 v10).trips), ∀ (k0_h2 : k0_cond2 i = 1#1), ∀ a, (k0_off2 v6 v10 k0_t1) a + S1x128.size a ≤ S16x128.size a := fun i v6 v10 k0_hw1 k0_t1 k0_h2 => k0_hw1.2.2.1 k0_t1 k0_h2
theorem k0_t2_ok : ∀ (i : grid0.Coords) (v6 : BitVec 32) (v10 : BitVec 32) (k0_hw1 : k0_chk1 i v6 v10), ∀ (k0_h2 : k0_cond2 i = 1#1), (k0_t2_loop v6 v10).OK := fun i v6 v10 k0_hw1 k0_h2 => k0_hw1.2.2.2.1 k0_h2
theorem k0_off3_inb : ∀ (i : grid0.Coords) (v6 : BitVec 32) (v10 : BitVec 32) (k0_hw1 : k0_chk1 i v6 v10) (k0_t2 : Fin (k0_t2_loop v6 v10).trips), ∀ (k0_h2 : k0_cond2 i = 1#1), ∀ a, (k0_off3 v6 v10 k0_t2) a + S1x512.size a ≤ S16x512.size a := fun i v6 v10 k0_hw1 k0_t2 k0_h2 => k0_hw1.2.2.2.2.1 k0_t2 k0_h2
theorem k0_off4_inb : ∀ (i : grid0.Coords) (v6 : BitVec 32) (v10 : BitVec 32) (k0_hw1 : k0_chk1 i v6 v10) (k0_t2 : Fin (k0_t2_loop v6 v10).trips), ∀ (k0_h2 : k0_cond2 i = 1#1), ∀ a, (k0_off4 v6 v10 k0_t2) a + S1x128.size a ≤ S16x128.size a := fun i v6 v10 k0_hw1 k0_t2 k0_h2 => k0_hw1.2.2.2.2.2.1 k0_t2 k0_h2
theorem k0_t3_ok : ∀ (i : grid0.Coords) (v6 : BitVec 32) (v10 : BitVec 32) (k0_hw1 : k0_chk1 i v6 v10), ∀ (k0_h4 : k0_cond4 i = 1#1), (k0_t3_loop v6 v10).OK := fun i v6 v10 k0_hw1 k0_h4 => k0_hw1.2.2.2.2.2.2.1 k0_h4
theorem k0_off5_inb : ∀ (i : grid0.Coords) (v6 : BitVec 32) (v10 : BitVec 32) (k0_hw1 : k0_chk1 i v6 v10) (k0_t3 : Fin (k0_t3_loop v6 v10).trips), ∀ (k0_h4 : k0_cond4 i = 1#1), ∀ a, (k0_off5 v6 v10 k0_t3) a + S1x512.size a ≤ S16x512.size a := fun i v6 v10 k0_hw1 k0_t3 k0_h4 => k0_hw1.2.2.2.2.2.2.2.1 k0_t3 k0_h4
theorem k0_t4_ok : ∀ (i : grid0.Coords) (v6 : BitVec 32) (v10 : BitVec 32) (k0_hw1 : k0_chk1 i v6 v10), ∀ (k0_h4 : k0_cond4 i = 1#1), (k0_t4_loop v6 v10).OK := fun i v6 v10 k0_hw1 k0_h4 => k0_hw1.2.2.2.2.2.2.2.2.1 k0_h4
theorem k0_off6_inb : ∀ (i : grid0.Coords) (v6 : BitVec 32) (v10 : BitVec 32) (k0_hw1 : k0_chk1 i v6 v10) (k0_t4 : Fin (k0_t4_loop v6 v10).trips), ∀ (k0_h4 : k0_cond4 i = 1#1), ∀ a, (k0_off6 v6 v10 k0_t4) a + S1x512.size a ≤ S16x512.size a := fun i v6 v10 k0_hw1 k0_t4 k0_h4 => k0_hw1.2.2.2.2.2.2.2.2.2 k0_t4 k0_h4

def k0_cond5 (i : grid0.Coords) : BitVec 1 :=
  let arg1 : BitVec 32 := BitVec.ofNat 32 (i 1).val
  let c0_i32_9 : BitVec 32 := 0#32
  let v22 : BitVec 1 := Scalar.cmpi .eq arg1 c0_i32_9
  let v23 : BitVec 32 := Scalar.extui v22
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceIdeal.lean ====
abbrev S16384x512 : Shape := ⟨2, ![16384, 512]⟩
abbrev S16x16 : Shape := ⟨2, ![16, 16]⟩
abbrev S16384 : Shape := ⟨1, ![16384]⟩
abbrev S512x512 : Shape := ⟨2, ![512, 512]⟩
abbrev S_ : Shape := ⟨0, ![]⟩
abbrev S16x512 : Shape := ⟨2, ![16, 512]⟩
abbrev S16384x1 : Shape := ⟨2, ![16384, 1]⟩
abbrev S16 : Shape := ⟨1, ![16]⟩
abbrev S16x1 : Shape := ⟨2, ![16, 1]⟩

abbrev nBuf : Space → Nat
  | .hbm => 59
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16x16, .f32⟩
  | .hbm, ⟨2, _⟩ => ⟨S16384, .i32⟩
  | .hbm, ⟨3, _⟩ => ⟨S512x512, .f32⟩
  | .hbm, ⟨4, _⟩ => ⟨S_, .f32⟩
  | .hbm, ⟨5, _⟩ => ⟨S16x512, .f32⟩
  | .hbm, ⟨6, _⟩ => ⟨S16384x1, .i32⟩
  | .hbm, ⟨7, _⟩ => ⟨S16x512, .f32⟩
  | .hbm, ⟨8, _⟩ => ⟨S_, .i32⟩
  | .hbm, ⟨9, _⟩ => ⟨S16, .i32⟩
  | .hbm, ⟨10, _⟩ => ⟨S_, .i32⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S_, .i32⟩
  | .hbm, ⟨23, _⟩ => ⟨S16384, .i32⟩
  | .hbm, ⟨24, _⟩ => ⟨S16, .i32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S16x1, .f32⟩
  | .hbm, ⟨30, _⟩ => ⟨S16x512, .f32⟩
  | .hbm, ⟨31, _⟩ => ⟨S16x512, .f32⟩
  | .hbm, ⟨32, _⟩ => ⟨S512x512, .f32⟩
  | .hbm, ⟨33, _⟩ => ⟨S16x512, .f32⟩
  | .hbm, ⟨34, _⟩ => ⟨S_, .f32⟩
  | .hbm, ⟨35, _⟩ => ⟨S16x512, .f32⟩
  | .hbm, ⟨36, _⟩ => ⟨S16x512, .f32⟩
  | .hbm, ⟨37, _⟩ => ⟨S_, .i32⟩
  | .hbm, ⟨38, _⟩ => ⟨S16384, .i32⟩
  | .hbm, ⟨39, _⟩ => ⟨S16384, .i1⟩
  | .hbm, ⟨40, _⟩ => ⟨S_, .i32⟩
  | .hbm, ⟨41, _⟩ => ⟨S16384, .i32⟩
  | .hbm, ⟨42, _⟩ => ⟨S16384, .i32⟩
  | .hbm, ⟨43, _⟩ => ⟨S16384, .i32⟩
  | .hbm, ⟨44, _⟩ => ⟨S16384x1, .i32⟩
  | .hbm, ⟨45, _⟩ => ⟨S16384x512, .f32⟩
  | .hbm, ⟨46, _⟩ => ⟨S16384x512, .f32⟩
  | .hbm, ⟨47, _⟩ => ⟨S_, .f32⟩
  | .hbm, ⟨48, _⟩ => ⟨S16384, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S16384x1, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S16x512, .f32⟩
  | .hbm, ⟨57, _⟩ => ⟨S16384x1, .i32⟩
  | .hbm, ⟨58, _⟩ => ⟨S16x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call1_cst : Ref sig .tc := ⟨.hbm, 34, rfl⟩
abbrev main_call1_v0 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_call2_cst : Ref sig .tc := ⟨.hbm, 49, rfl⟩
abbrev main_call2_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Proof.Words.lean ====
/-
  Hand-written, untrusted. Words: the least and the greatest of a block of segment ids bound every id of the block,
  and a counted loop from the one to the other inclusive has as many trips as there are ids between them, its
  variable being the id itself. Row updates: a loop that replaces row `lo + k` of an array at trip `k` by a function
  of that row leaves every row between `lo` and the last one replaced, and no other.
-/
module

public import Idealize.ShloMosaic.Lib.Scf
public import Idealize.ShloMosaic.Lib.LoopRemainder
public import Idealize.ShloMosaic.Lib.VecWindow
public import Idealize.ShloMosaic.Lib.ValueIdx
public import Idealize.ShloMosaic.PureOps.Reduce

@[expose] public section

noncomputable section

namespace Cert.Words

open Idealize.ShloMosaic

/-! ## Signed minimum and maximum -/

theorem toInt_minsi (x y : BitVec 32) : (IntOp.minsi x y).toInt = min x.toInt y.toInt := by
  unfold IntOp.minsi
  by_cases h : x.slt y = true
  · rw [if_pos h]; rw [BitVec.slt_iff_toInt_lt] at h; omega
  · rw [if_neg h]; rw [BitVec.slt_iff_toInt_lt] at h; omega

theorem toInt_maxsi (x y : BitVec 32) : (IntOp.maxsi x y).toInt = max x.toInt y.toInt := by
  unfold IntOp.maxsi
  by_cases h : y.slt x = true
  · rw [if_pos h]; rw [BitVec.slt_iff_toInt_lt] at h; omega
  · rw [if_neg h]; rw [BitVec.slt_iff_toInt_lt] at h; omega

/-- A reduction by signed minimum over all axes is at most every word reduced, and at least any word at most all of them. -/
theorem reduce_min {s t : Shape} {axes : List (Fin s.rank)} (src : IVec s 32) (h : s.Reduces axes t) (hacc : 2147483647#32 = IKind.minsi.neutral)
    (j : t.Idx) (c : BitVec 32) :
    c.toInt ≤ (multiReductionI .minsi axes t src 2147483647#32 h hacc j).toInt ↔ c.toInt ≤ 2147483647 ∧ ∀ i, h.drop i = j → c.toInt ≤ (src i).toInt := by
  rw [multiReductionI_eq_fold]
  have := Finset.fold_op_rel_iff_and (op := IKind.minsi.op) (r := fun x y : BitVec 32 => x.toInt ≤ y.toInt)
    (f := src) (b := 2147483647#32) (s := Finset.univ.filter fun i => h.drop i = j) (c := c)
    (by intro x y z; show x.toInt ≤ (IntOp.minsi y z).toInt ↔ _; rw [toInt_minsi]; exact le_min_iff)
  rw [this]
  simp

/-- The same for the signed maximum. -/
theorem reduce_max {s t : Shape} {axes : List (Fin s.rank)} (src : IVec s 32) (h : s.Reduces axes t) (hacc : 2147483648#32 = IKind.maxsi.neutral)
    (j : t.Idx) (c : BitVec 32) :
    (multiReductionI .maxsi axes t src 2147483648#32 h hacc j).toInt ≤ c.toInt ↔ -2147483648 ≤ c.toInt ∧ ∀ i, h.drop i = j → (src i).toInt ≤ c.toInt := by
  rw [multiReductionI_eq_fold]
  have := Finset.fold_op_rel_iff_and (op := IKind.maxsi.op) (r := fun x y : BitVec 32 => y.toInt ≤ x.toInt)
    (f := src) (b := 2147483648#32) (s := Finset.univ.filter fun i => h.drop i = j) (c := c)
    (by intro x y z; show (IntOp.maxsi y z).toInt ≤ x.toInt ↔ _; rw [toInt_maxsi]; exact max_le_iff)
  rw [this]
  simp

theorem toInt_of_lt {w : BitVec 32} {n : ℕ} (h : w.toNat < n) (hn : n ≤ 16) : w.toInt = w.toNat := by
  rw [BitVec.toInt_eq_toNat_cond]; rw [if_pos (by omega)]

/-! ## The counted loop from the least id to the greatest -/

theorem loop_ub (lo hi : BitVec 32) :
    Scalar.addi lo (Scalar.muli (Scalar.divsi (Scalar.subi (Scalar.addi hi 1#32) lo) 1#32) 1#32) = hi + 1#32 := by
  rw [Scalar.muli_divsi_one]
  show lo + ((hi + 1#32) - lo) = hi + 1#32
  rw [BitVec.add_comm, BitVec.sub_add_cancel]

variable {lo hi : BitVec 32} (hlo : lo.toNat ≤ hi.toNat) (hhi : hi.toNat < 16)
include hlo hhi

theorem toInt_lo : lo.toInt = lo.toNat := toInt_of_lt (n := 16) (by omega) le_rfl

theorem toInt_ub : (hi + 1#32).toInt = hi.toNat + 1 := by
  have h1 : (hi + 1#32).toNat = hi.toNat + 1 := by rw [BitVec.toNat_add]; show (hi.toNat + 1) % 4294967296 = _; omega
  rw [BitVec.toInt_eq_toNat_cond, h1, if_pos (by omega)]; omega

theorem trips_eq : Scf.trips lo (hi + 1#32) 1#32 = hi.toNat + 1 - lo.toNat := by
  unfold Scf.trips
  rw [toInt_lo hlo hhi, toInt_ub hlo hhi, show (1#32 : BitVec 32).toInt = 1 by decide]
  omega

theorem loop_ok : Scf.OK lo (hi + 1#32) 1#32 := by
  unfold Scf.OK
  rw [trips_eq hlo hhi, toInt_lo hlo hhi, show (1#32 : BitVec 32).toInt = 1 by decide]
  refine ⟨by decide, ?_⟩
  norm_num
  omega

theorem iv_toNat {k : ℕ} (hk : lo.toNat + k < 17) : (Scf.iv lo 1#32 k).toNat = lo.toNat + k := by
  unfold Scf.iv
  rw [BitVec.mul_one, BitVec.toNat_add, BitVec.toNat_ofNat]
  omega

theorem iv_eq {k : ℕ} (hk : lo.toNat + k < 17) : Scf.iv lo 1#32 k = BitVec.ofNat 32 (lo.toNat + k) := by
  apply BitVec.eq_of_toNat_eq
  rw [iv_toNat hlo hhi hk, BitVec.toNat_ofNat]
  omega

omit hlo hhi

/-! ## Row updates -/

variable {α : Type} {n : ℕ}

/-- Row `b` of an array of sixteen rows. -/
def rowOf (X : (⟨2, ![16, n]⟩ : Shape).Idx → α) (b : Fin 16) : (⟨2, ![1, n]⟩ : Shape).Idx → α := fun y => X (ValueIdx.ix2 b (y 1 : Fin n))

/-- The array after the rows `a`, …, `a + k - 1` were each replaced by a function of the row. -/
def rowsUpd (X : (⟨2, ![16, n]⟩ : Shape).Idx → α) (a k : ℕ)
    (g : Fin 16 → ((⟨2, ![1, n]⟩ : Shape).Idx → α) → ((⟨2, ![1, n]⟩ : Shape).Idx → α)) : (⟨2, ![16, n]⟩ : Shape).Idx → α :=
  fun y => if a ≤ (y 0).val ∧ (y 0).val < a + k then g (y 0) (rowOf X (y 0)) (ValueIdx.ix2 (0 : Fin 1) (y 1 : Fin n)) else X y

variable (X : (⟨2, ![16, n]⟩ : Shape).Idx → α) (a k : ℕ)
  (g : Fin 16 → ((⟨2, ![1, n]⟩ : Shape).Idx → α) → ((⟨2, ![1, n]⟩ : Shape).Idx → α))

theorem rowsUpd_zero : rowsUpd X a 0 g = X := by
  funext y
  exact if_neg (by omega)

/-- The window of the row a trip reads is the row as it was before the loop. -/
theorem window_rowsUpd (b : Fin 16) (hb : b.val = a + k) (off : Fin 2 → ℕ) (hoff : off = ![b.val, 0])
    (inb : ∀ x, off x + (![1, n] : Fin 2 → ℕ) x ≤ (⟨2, ![16, n]⟩ : Shape).size x) :
    (VecWindow.window (s := ⟨2, ![16, n]⟩) (rowsUpd X a k g) off ![1, n] inb : (⟨2, ![1, n]⟩ : Shape).Idx → α) = rowOf X b := by
  subst hoff
  funext y
  have hy : (y 0).val = 0 := by have := (y 0).isLt; exact Nat.lt_one_iff.mp this
  unfold VecWindow.window rowsUpd
  have e : (Rect.unit (s := ⟨2, ![16, n]⟩) ![b.val, 0] ![1, n] inb).emb y = ValueIdx.ix2 b (y 1 : Fin n) := by
    funext x
    apply Fin.ext
    match x with
    | ⟨0, _⟩ => show b.val + 1 * (y 0).val = b.val; omega
    | ⟨1, _⟩ => show 0 + 1 * (y 1).val = (y 1).val; omega
  rw [e]
  rw [if_neg (by show ¬ (a ≤ b.val ∧ b.val < a + k); omega)]
  rfl

/-- Putting the replaced row is one more trip. -/
theorem put_rowsUpd (b : Fin 16) (hb : b.val = a + k) (off : Fin 2 → ℕ) (hoff : off = ![b.val, 0]) :
    VecWindow.put (s := ⟨2, ![16, n]⟩) (rowsUpd X a k g) off ![1, n] (g b (rowOf X b)) = rowsUpd X a (k + 1) g := by
  subst hoff
  funext y
  unfold VecWindow.put
  by_cases h : (y 0).val = b.val
  · have hyb : (y 0 : Fin 16) = b := Fin.ext h
    rw [dif_pos (by
      intro x
      match x with
      | ⟨0, _⟩ => show b.val ≤ (y 0).val ∧ (y 0).val < b.val + 1; omega
      | ⟨1, _⟩ => show 0 ≤ (y 1).val ∧ (y 1).val < 0 + n; have : (y 1).val < n := (y 1).isLt; omega)]
    unfold rowsUpd
    rw [if_pos (by omega), (show g (y 0) (rowOf X (y 0)) = g b (rowOf X b) from congrArg (fun z => g z (rowOf X z)) hyb)]
    congr 1
    funext x
    apply Fin.ext
    match x with
    | ⟨0, _⟩ => show (y 0).val - b.val = 0; omega
    | ⟨1, _⟩ => show (y 1).val - 0 = (y 1).val; omega
  · rw [dif_neg (by
      intro hx
      have := hx 0
      have h1 : b.val ≤ (y 0).val ∧ (y 0).val < b.val + 1 := this
      omega)]
    unfold rowsUpd
    by_cases h2 : a ≤ (y 0).val ∧ (y 0).val < a + k
    · rw [if_pos h2, if_pos (by omega)]
    · rw [if_neg h2, if_neg (by omega)]

end Cert.Words

end
-- ==== Proof.Blocks.lean ====
/-
  Hand-written, untrusted. What the kernel's body computes with one block of rows and their segment ids, in closed form:
  the least and the greatest id, the trips of its loops, the side condition it assumes, and what each loop leaves of
  the arrays it updates: every row between the least and the greatest id replaced by the row and the block's
  contribution to that segment.
-/
module

public import proofs.«01_k».proof.Proof.Gen.KernelIdeal.Skeleton
public import proofs.«01_k».proof.Proof.Words

@[expose] public section

noncomputable section

namespace Cert.KernelIdeal.Hand

open Idealize.ShloMosaic Idealize.SL.Sem
open Cert.KernelIdeal Cert.KernelIdeal.Gen Cert.Words

variable {F : FTy → Type} [FloatOps F]

/-- The least id of a block. -/
abbrev lo (s : Vec F S1024x1 .i32) : BitVec 32 := extractAt ![0, 0, 0] (k0_pay2 s) inpos_S1x1x1_p0_0_0
/-- The greatest id of a block. -/
abbrev hi (s : Vec F S1024x1 .i32) : BitVec 32 := extractAt ![0, 0, 0] (k0_pay3 s) inpos_S1x1x1_p0_0_0

/-- The ids of the block lie in the range of the segments. -/
def InRange (s : Vec F S1024x1 .i32) : Prop := ∀ y, (s y : BitVec 32).toNat < 16

section Range

variable (s : Vec F S1024x1 .i32)

theorem toInt_id (hs : InRange s) (y : S1024x1.Idx) : (s y : BitVec 32).toInt = (s y : BitVec 32).toNat := toInt_of_lt (hs y) le_rfl

/-- The block's ids read along the reduction's three axes are the block's ids, reordered. -/
theorem exists_src : ∃ e : S1x1024x1.Idx ≃ S1024x1.Idx, (shapeCast S1x1024x1 (k0_pay1 s) shapeCasts_S1024x1_S1x1024x1 : IVec S1x1024x1 32) = fun x => s (e x) :=
  ⟨(Shape.reshapeEquiv shapeCasts_S1024x1_S1x1024x1).trans (Shape.reshapeEquiv shapeCasts_S1024x1_S1024x1), rfl⟩

theorem drop_eq (i : S1x1024x1.Idx) (j : S1.Idx) : reduces_S1x1024x1_S1.drop i = j := by
  funext x
  match x with
  | ⟨0, _⟩ => exact Subsingleton.elim (α := Fin 1) _ _

theorem le_lo (c : BitVec 32) : c.toInt ≤ (lo s).toInt ↔ c.toInt ≤ 2147483647 ∧ ∀ y, c.toInt ≤ (s y : BitVec 32).toInt := by
  obtain ⟨e, he⟩ := exists_src s
  unfold lo extractAt k0_pay2 shapeCast
  refine (reduce_min _ _ _ _ c).trans (and_congr_right fun _ => ?_)
  constructor
  · intro h y
    have := h (e.symm y) (drop_eq _ _)
    have key := congrFun he (e.symm y)
    rw [Equiv.apply_symm_apply] at key
    unfold shapeCast at key
    rw [key] at this
    exact this
  · intro h i _
    have key := congrFun he i
    unfold shapeCast at key
    rw [key]
    exact h (e i)

theorem hi_le (c : BitVec 32) : (hi s).toInt ≤ c.toInt ↔ -2147483648 ≤ c.toInt ∧ ∀ y, (s y : BitVec 32).toInt ≤ c.toInt := by
  obtain ⟨e, he⟩ := exists_src s
  unfold hi extractAt k0_pay3 shapeCast
  refine (reduce_max _ _ _ _ c).trans (and_congr_right fun _ => ?_)
  constructor
  · intro h y
    have := h (e.symm y) (drop_eq _ _)
    have key := congrFun he (e.symm y)
    rw [Equiv.apply_symm_apply] at key
    unfold shapeCast at key
    rw [key] at this
    exact this
  · intro h i _
    have key := congrFun he i
    unfold shapeCast at key
    rw [key]
    exact h (e i)

variable {s} (hs : InRange s)
include hs

theorem range_facts : (hi s).toNat < 16 ∧ (∀ y, (lo s).toNat ≤ (s y : BitVec 32).toNat ∧ (s y : BitVec 32).toNat ≤ (hi s).toNat) := by
  have h1 := (le_lo s (lo s)).mp le_rfl
  have h2 := (hi_le s (hi s)).mp le_rfl
  have h0 : (0 : ℤ) ≤ (lo s).toInt := (le_lo s 0#32).mpr ⟨by decide, fun y => by
    rw [toInt_id s hs y]; exact Int.natCast_nonneg _⟩
  have h3 : (hi s).toInt ≤ 15 := (hi_le s 15#32).mpr ⟨by decide, fun y => by
    rw [toInt_id s hs y]; have := hs y; show _ ≤ (15 : ℤ); omega⟩
  let y0 : S1024x1.Idx := ValueIdx.ix2 (0 : Fin 1024) (0 : Fin 1)
  have h4 := h2.2 y0
  have h5 := h1.2 y0
  rw [toInt_id s hs y0] at h4 h5
  have a1 : (hi s).toInt = (hi s).toNat := by
    have := BitVec.toInt_eq_toNat_cond (hi s)
    have hl := (hi s).isLt
    split at this <;> omega
  have a2 : (lo s).toInt = (lo s).toNat := by
    have := BitVec.toInt_eq_toNat_cond (lo s)
    have hl := (lo s).isLt
    split at this <;> omega
  refine ⟨by omega, fun y => ?_⟩
  have b1 := h1.2 y
  have b2 := h2.2 y
  rw [toInt_id s hs y] at b1 b2
  omega

theorem hi_lt : (hi s).toNat < 16 := (range_facts hs).1
theorem lo_le_hi : (lo s).toNat ≤ (hi s).toNat := by
  have := (range_facts hs).2 (ValueIdx.ix2 (0 : Fin 1024) (0 : Fin 1))
  exact this.1.trans this.2

end Range

/-! ## The trips -/

/-- The number of trips of the body's loops over a block. -/
def cnt (s : Vec F S1024x1 .i32) : ℕ := (hi s).toNat + 1 - (lo s).toNat

section Trips

variable {s : Vec F S1024x1 .i32} (hs : InRange s)
include hs

theorem t1_trips : (k0_t1_loop (lo s) (hi s)).trips = cnt s := by
  show Scf.trips _ _ _ = _
  rw [show (k0_t1_loop (lo s) (hi s)).ub = _ from loop_ub (lo s) (hi s)]
  exact trips_eq (lo_le_hi hs) (hi_lt hs)

theorem t3_trips : (k0_t3_loop (lo s) (hi s)).trips = cnt s := t1_trips hs

theorem t1_ok : (k0_t1_loop (lo s) (hi s)).OK := by
  show Scf.OK _ _ _
  rw [show (k0_t1_loop (lo s) (hi s)).ub = _ from loop_ub (lo s) (hi s)]
  exact loop_ok (lo_le_hi hs) (hi_lt hs)

/-- The row of segment trip `k` works at. -/
theorem row_lt {k : ℕ} (hk : k < cnt s) : (lo s).toNat + k < 16 := by
  have := hi_lt hs
  have := lo_le_hi hs
  unfold cnt at hk
  omega

theorem off1_eq (k : Fin (k0_t1_loop (lo s) (hi s)).trips) : k0_off1 (lo s) (hi s) k = ![(lo s).toNat + k.val, 0] := by
  have hk : k.val < cnt s := lt_of_lt_of_eq k.isLt (t1_trips hs)
  have := row_lt hs hk
  show ![(Scf.iv (lo s) 1#32 k).toNat, 0] = _
  rw [iv_toNat (lo_le_hi hs) (hi_lt hs) (by omega)]

theorem off2_eq (k : Fin (k0_t1_loop (lo s) (hi s)).trips) : k0_off2 (lo s) (hi s) k = ![(lo s).toNat + k.val, 0] := off1_eq hs k

theorem off5_eq (k : Fin (k0_t3_loop (lo s) (hi s)).trips) : k0_off5 (lo s) (hi s) k = ![(lo s).toNat + k.val, 0] := off1_eq hs k

theorem inb_row {n b : ℕ} (hb : b < 16) : ∀ a, (![b, 0] : Fin 2 → ℕ) a + (⟨2, ![1, n]⟩ : Shape).size a ≤ (⟨2, ![16, n]⟩ : Shape).size a := by
  intro a
  match a with
  | ⟨0, _⟩ => show b + 1 ≤ 16; omega
  | ⟨1, _⟩ => show 0 + n ≤ n; omega

/-- The body's side condition holds of a block of ids in range. -/
theorem chk1 (i : grid0.Coords) : k0_chk1 i (lo s) (hi s) := by
  have hin : ∀ k : ℕ, k < (k0_t1_loop (lo s) (hi s)).trips → (lo s).toNat + k < 16 := fun k hk => row_lt hs (lt_of_lt_of_eq hk (t1_trips hs))
  refine ⟨fun _ => t1_ok hs, fun k _ => ?_, fun k _ => ?_, fun _ => Scf.rem_ok _ _, fun k _ => (Scf.rem_no_trip _ _ k).elim,
    fun k _ => (Scf.rem_no_trip _ _ k).elim, fun _ => t1_ok hs, fun k _ => ?_, fun _ => Scf.rem_ok _ _, fun k _ => (Scf.rem_no_trip _ _ k).elim⟩
  · rw [off1_eq hs]; exact inb_row hs (hin _ k.isLt)
  · rw [off2_eq hs]; exact inb_row hs (hin _ k.isLt)
  · rw [off5_eq hs]; exact inb_row hs (hin _ k.isLt)

end Trips

/-! ## What one trip stores -/

/-- The block's rows of one segment, as a column of ones and zeros. -/
def maskOf (s : Vec F S1024x1 .i32) (b : BitVec 32) : FVec F S1024x1 .f32 :=
  sitofp .f32 (extui 32 (cmpi .eq (k0_pay1 s) (broadcast S1024x1 b)) natLt_1_32)

/-- A row of the feature sums, the block's rows of segment `b` added. -/
def sumRow (f : Vec F S1024x512 .f32) (s : Vec F S1024x1 .i32) (b : Fin 16) (x : Vec F S1x512 .f32) : FVec F S1x512 .f32 :=
  shapeCast S1x512 (addf x (shapeCast S1x512 (multiReduction .add [0] S512 (mulf f (broadcastTo S1024x512 (maskOf s (BitVec.ofNat 32 b.val)) broadcasts_S1024x1_S1024x512))
    0x00000000#32 reduces_S1024x512_S512 (.inl rfl) rfl) shapeCasts_S512_S1x512)) shapeCasts_S1x512_S1x512

/-- A row of the counts, the number of the block's rows of segment `b` added. -/
def cntRow (s : Vec F S1024x1 .i32) (b : Fin 16) (x : Vec F S1x128 .f32) : FVec F S1x128 .f32 :=
  shapeCast S1x128 (addf x (broadcast S1x128 (extractAt ![0, 0, 0] (shapeCast S1x1x1 (multiReduction .add [1, 2] S1
    (shapeCast S1x1024x1 (maskOf s (BitVec.ofNat 32 b.val)) shapeCasts_S1024x1_S1x1024x1) 0x00000000#32 reduces_S1x1024x1_S1 (.inl rfl) rfl) shapeCasts_S1_S1x1x1) inpos_S1x1x1_p0_0_0)))
    shapeCasts_S1x128_S1x128

/-- A row of the result, the block's weighted rows of segment `b` added; `g` the segment's row of the global context. -/
def outRow (f : Vec F S1024x512 .f32) (s : Vec F S1024x1 .i32) (b : Fin 16) (g x : Vec F S1x512 .f32) : FVec F S1x512 .f32 :=
  addf (shapeCast S1x512 x shapeCasts_S1x512_S1x512)
    (shapeCast S1x512 (multiReduction .add [0] S512 (mulf f (broadcastTo S1024x512
      (mulf (maximumf (shapeCast S1024x1 (multiReduction .add [1] S1024 (mulf f (broadcastTo S1024x512 g broadcasts_S1x512_S1024x512))
        0x00000000#32 reduces_S1024x512_S1024 (.inl rfl) rfl) shapeCasts_S1024_S1024x1) (broadcast S1024x1 (Scalar.ofBits .f32 0x00000000#32)))
        (maskOf s (BitVec.ofNat 32 b.val))) broadcasts_S1024x1_S1024x512))
      0x00000000#32 reduces_S1024x512_S512 (.inl rfl) rfl) shapeCasts_S512_S1x512)

/-- The feature sums after a block. -/
def accStep (f : Vec F S1024x512 .f32) (s : Vec F S1024x1 .i32) (k : ℕ) (X : Vec F S16x512 .f32) : Vec F S16x512 .f32 :=
  rowsUpd X (lo s).toNat k (sumRow f s)

/-- The counts after a block. -/
def cntStep (s : Vec F S1024x1 .i32) (k : ℕ) (X : Vec F S16x128 .f32) : Vec F S16x128 .f32 :=
  rowsUpd X (lo s).toNat k (cntRow s)

/-- The result's sums after a block, the global context being `G`. -/
def outStep (f : Vec F S1024x512 .f32) (s : Vec F S1024x1 .i32) (G : Vec F S16x512 .f32) (k : ℕ) (X : Vec F S16x512 .f32) : Vec F S16x512 .f32 :=
  rowsUpd X (lo s).toNat k fun b => outRow f s b (rowOf G b)

section Pays

variable {s : Vec F S1024x1 .i32} (hs : InRange s) (f : Vec F S1024x512 .f32)
include hs

theorem iv_row (k : Fin (k0_t1_loop (lo s) (hi s)).trips) (b : Fin 16) (hb : b.val = (lo s).toNat + k.val) : Scf.iv (lo s) 1#32 k.val = BitVec.ofNat 32 b.val := by
  have hk : k.val < cnt s := lt_of_lt_of_eq k.isLt (t1_trips hs)
  have := row_lt hs hk
  rw [hb]; exact iv_eq (lo_le_hi hs) (hi_lt hs) (by omega)

theorem pay7_eq (k : Fin (k0_t1_loop (lo s) (hi s)).trips) (b : Fin 16) (hb : b.val = (lo s).toNat + k.val) (x : Vec F S1x512 .f32) :
    k0_pay7 f s (lo s) (hi s) k x = sumRow f s b x := by
  unfold sumRow
  rw [← iv_row hs k b hb]
  rfl

theorem pay8_eq (k : Fin (k0_t1_loop (lo s) (hi s)).trips) (b : Fin 16) (hb : b.val = (lo s).toNat + k.val) (x : Vec F S1x128 .f32) :
    k0_pay8 s (lo s) (hi s) k x = cntRow s b x := by
  unfold cntRow
  rw [← iv_row hs k b hb]
  rfl

theorem pay14_eq (k : Fin (k0_t3_loop (lo s) (hi s)).trips) (b : Fin 16) (hb : b.val = (lo s).toNat + k.val) (g x : Vec F S1x512 .f32) :
    k0_pay14 f s (lo s) (hi s) k g x = outRow f s b g x := by
  unfold outRow
  rw [← iv_row hs k b hb]
  rfl

end Pays

end Cert.KernelIdeal.Hand

end
-- ==== Proof.Owned.lean ====
/-
  Hand-written, untrusted. The two memory rules the body's triple uses, over memrefs owned by what they read
  (`owns`): a load through a unit-stride rectangle continues at the window of the owned contents, and an unmasked
  store through one leaves the owned contents with the payload put over the window.
-/
module

public import Idealize.ShloMosaic.Lib.VecWindow
public import Idealize.ShloMosaic.Lib.Pipeline.Frame
public import Idealize.ShloMosaic.Lib.Tactic

@[expose] public section

noncomputable section

namespace Cert.Owned

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable {α : Type} {defs : Defs nD τ sig Val Λ} (𝒱 : Variants) (c : Thread nD τ) (bd : Option 𝒱.V) (E : Set Name)
variable {Q : α → sProp (MT nD τ sig Ix Val Name U Lvl)}

/-- A load through a unit-stride rectangle of an owned memref reads the window of the owned contents. -/
theorem load_rule {cs : CoreSpace} {s : Shape} {e : EltTy} {m : Memref sig c.2.kind cs s e} {off size : Fin s.rank → ℕ}
    {inb : ∀ a, off a + size a ≤ s.size a} {hl : m.view.LoadsAt (Rect.unit off size inb).toLoadRect}
    {k : ((Rect.unit off size inb).toLoadRect.shape.Idx → Val e) → Prog (TpuEff nD τ sig Val Λ c.2) α}
    {q : PosShare TreeShare} {X : s.Idx → Val e} :
    (owns c m q X : sProp 𝕄)
      ⊢ iprop((owns c m q X -∗ wp frame (wpE defs 𝒱 c bd) E (k (VecWindow.window X off size inb)) Q)
        -∗ wp frame (wpE defs 𝒱 c bd) E (.op (.load m (Rect.unit off size inb).toLoadRect hl) k) Q) := by
  unfold owns
  iintro ⟨%f, %hf, H⟩ Hk
  have h := Idealize.ShloMosaic.wp_load (Ix := Ix) (Name := Name) (U := U) (Lvl := Lvl) 𝒱 c bd (defs := defs) E (m := m)
    (r := (Rect.unit off size inb).toLoadRect) (hl := hl) (k := k) (q := q) (f := f) (Q := Q) (Γ := PendingWaitsCtx.empty) (View.setOn_subset_set _ _)
  iapply h $$ H
  iintro H
  rw [View.readAt_unit m.view f inb rfl inb, hf]
  iapply Hk
  iexists f
  isplitr
  · ipureintro; exact hf
  iexact H

/-- An unmasked store through a unit-stride rectangle of an owned memref puts the payload over the window. -/
theorem store_rule {cs : CoreSpace} {s : Shape} {e : EltTy} {m : Memref sig c.2.kind cs s e} {off size : Fin s.rank → ℕ}
    {inb : ∀ a, off a + size a ≤ s.size a} {w : (Rect.unit off size inb).shape.Idx → Val e}
    {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig Val Λ c.2) α} {X : s.Idx → Val e} :
    (owns c m fullShare X : sProp 𝕄)
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  iapply (Idealize.ShloMosaic.wp_store 𝒱 c bd E (m := m) (r := Rect.unit off size inb) (Mk := Finset.univ)
    (Memref.setOn_access_subset _ _ _)) $$ H
  iintro H
  iapply Hk
  iexists _
  isplitr
  rotate_left
  · iexact H
  ipureintro
  rw [← hf]
  exact View.read_writes_cons_put m.view f inb w [] rfl

theorem window_full {s : Shape} {β : Type} (X : s.Idx → β) {off : Fin s.rank → ℕ} (inb : ∀ a, off a + s.size a ≤ s.size a) :
    VecWindow.window X off s.size inb = X := funext fun z => congrArg X (Rect.emb_unit_full inb z)

theorem put_full {s : Shape} {β : Type} (X : s.Idx → β) {off : Fin s.rank → ℕ} (inb : ∀ a, off a + s.size a ≤ s.size a) (w : s.Idx → β) :
    VecWindow.put X off s.size w = w := by
  have h0 : ∀ a, off a = 0 := fun a => by have := inb a; omega
  funext y
  unfold VecWindow.put
  rw [dif_pos (fun a => ⟨by rw [h0]; exact Nat.zero_le _, by rw [h0, Nat.zero_add]; exact (y a).isLt⟩)]
  congr 1
  funext a
  apply Fin.ext
  show (y a).val - off a = (y a).val
  rw [h0, Nat.sub_zero]

/-- A load of a whole owned memref reads the owned contents. -/
theorem load_full {cs : CoreSpace} {s : Shape} {e : EltTy} {m : Memref sig c.2.kind cs s e} {off : Fin s.rank → ℕ}
    {inb : ∀ a, off a + s.size a ≤ s.size a} {hl : m.view.LoadsAt (Rect.unit off s.size inb).toLoadRect}
    {k : ((Rect.unit off s.size inb).toLoadRect.shape.Idx → Val e) → Prog (TpuEff nD τ sig Val Λ c.2) α}
    {q : PosShare TreeShare} {X : s.Idx → Val e} :
    (owns c m q X : sProp 𝕄)
      ⊢ iprop((owns c m q X -∗ wp frame (wpE defs 𝒱 c bd) E (k X) Q)
        -∗ wp frame (wpE defs 𝒱 c bd) E (.op (.load m (Rect.unit off s.size inb).toLoadRect hl) k) Q) := by
  have h := load_rule (Ix := Ix) (Name := Name) (U := U) (Lvl := Lvl) 𝒱 c bd E (defs := defs) (m := m) (off := off) (size := s.size)
    (inb := inb) (hl := hl) (k := k) (q := q) (X := X) (Q := Q)
  rw [window_full] at h
  exact h

/-- An unmasked store over a whole owned memref leaves the payload. -/
theorem store_full {cs : CoreSpace} {s : Shape} {e : EltTy} {m : Memref sig c.2.kind cs s e} {off : Fin s.rank → ℕ}
    {inb : ∀ a, off a + s.size a ≤ s.size a} {w : (Rect.unit off s.size inb).shape.Idx → Val e}
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {X : s.Idx → Val e} :
    (owns c m fullShare X : sProp 𝕄)
      ⊢ iprop((owns c m fullShare (w : s.Idx → Val e) -∗ wp frame (wpE defs 𝒱 c bd) E (k ⟨⟩) Q)
        -∗ wp frame (wpE defs 𝒱 c bd) E (.op (.store m (Rect.unit off s.size inb) w Finset.univ hx hm) k) Q) := by
  have h := store_rule (Ix := Ix) (Name := Name) (U := U) (Lvl := Lvl) 𝒱 c bd E (defs := defs) (m := m) (off := off) (size := s.size)
    (inb := inb) (w := w) (hx := hx) (hm := hm) (k := k) (X := X) (Q := Q)
  rw [put_full X inb] at h
  exact h

end Cert.Owned

end
-- ==== Proof.Loops.lean ====
/-
  Hand-written, untrusted. The triples of the kernel's two counted loops: the first adds a block's rows and their number
  to the rows of its segments, the second adds the block's weighted rows to the result's rows of its segments. The remainder
  loop the kernel carries after each has no trip.
-/
module

public import proofs.«01_k».proof.Proof.Blocks
public import proofs.«01_k».proof.Proof.Owned

@[expose] public section

set_option maxRecDepth 16384

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1024x512 .f32) (harg2 : arg2.IsWhole) (arg3 : Memref sig .tc .vmem S1024x1 .i32) (harg3 : arg3.IsWhole)
  (arg4 : Memref sig .tc .vmem S512x512 .f32) (harg4 : arg4.IsWhole) (arg5 : Memref sig .tc .vmem S16x512 .f32) (harg5 : arg5.IsWhole)
  (arg6 : Memref sig .tc .vmem S16x512 .f32) (harg6 : arg6.IsWhole) (arg7 : Memref sig .tc .vmem S16x128 .f32) (harg7 : arg7.IsWhole)
  (arg8 : Memref sig .tc .vmem S16x512 .f32) (harg8 : arg8.IsWhole)
  (f : Vec F S1024x512 .f32) {s : Vec F S1024x1 .i32} (hs : InRange s) (hw : k0_chk1 i (lo s) (hi s))
include hs

/-- The accumulating loop: the sums' and the counts' rows of the block's segments, the block added. -/
theorem t1_triple (h2 : k0_cond2 i = 1#1) (init : BitVec 32) (X6 : Vec F S16x512 .f32) (X7 : Vec F S16x128 .f32)
    {α : Type} (kk : BitVec 32 → Prog (TpuEff nD τ sig (Elt F) Λ₀ .tc) α) (Q : α → sProp 𝕄) :
    iprop(owns (c : Thread nD τ) arg6 fullShare X6 ∗ owns (c : Thread nD τ) arg7 fullShare X7)
      ⊢ iprop((∀ acc, iprop(owns (c : Thread nD τ) arg6 fullShare (accStep f s (cnt s) X6) ∗ owns (c : Thread nD τ) arg7 fullShare (cntStep s (cnt s) X7))
          -∗ wp frame (wpE (defs₀ (F := F)) Variants.none c none) Set.univ (kk acc) Q)
        -∗ wp frame (wpE (defs₀ (F := F)) Variants.none c none) Set.univ
          (Scf.Loop.for (k0_t1_loop (lo s) (hi s)) (k0_t1_ok i (lo s) (hi s) hw h2) init
            (k0_t1_body i arg2 harg2 arg3 harg3 arg4 harg4 arg5 harg5 arg6 harg6 arg7 harg7 arg8 harg8 f s (lo s) (hi s) hw h2) >>= kk) Q) := by
  have key := Scf.wp_for_bind frame (wpE (defs₀ (F := F)) Variants.none (c : Thread nD τ) none) Set.univ _ _ _ (k0_t1_ok i (lo s) (hi s) hw h2) init
    (k0_t1_body i arg2 harg2 arg3 harg3 arg4 harg4 arg5 harg5 arg6 harg6 arg7 harg7 arg8 harg8 f s (lo s) (hi s) hw h2)
    (fun k _ => iprop(owns (c : Thread nD τ) arg6 fullShare (accStep f s k X6) ∗ owns (c : Thread nD τ) arg7 fullShare (cntStep s k X7))) (Q := Q) (kk := kk) ?_
  · have e0 : accStep f s 0 X6 = X6 := rowsUpd_zero _ _ _
    have e1 : cntStep s 0 X7 = X7 := rowsUpd_zero _ _ _
    rw [show Scf.trips (k0_t1_loop (lo s) (hi s)).lb (k0_t1_loop (lo s) (hi s)).ub (k0_t1_loop (lo s) (hi s)).st = cnt s from t1_trips hs, e0, e1] at key
    exact key
  · intro k acc
    have hk : k.val < cnt s := lt_of_lt_of_eq k.isLt (t1_trips hs)
    have hb := row_lt hs hk
    let b : Fin 16 := ⟨(lo s).toNat + k.val, hb⟩
    have e6 : VecWindow.put (accStep f s k X6) (k0_off1 (lo s) (hi s) k) S1x512.size
        (k0_pay7 f s (lo s) (hi s) k (VecWindow.window (accStep f s k X6) (k0_off1 (lo s) (hi s) k) S1x512.size (k0_off1_inb i (lo s) (hi s) hw k h2)))
        = accStep f s (k + 1) X6 := by
      rw [pay7_eq hs f k b rfl]
      unfold accStep
      rw [show VecWindow.window (s := S16x512) (rowsUpd X6 (lo s).toNat k (sumRow f s)) (k0_off1 (lo s) (hi s) k) S1x512.size (k0_off1_inb i (lo s) (hi s) hw k h2)
        = rowOf X6 b from window_rowsUpd X6 _ _ _ b rfl _ (off1_eq hs k) _]
      exact put_rowsUpd X6 _ _ _ b rfl _ (off1_eq hs k)
    have e7 : VecWindow.put (cntStep s k X7) (k0_off2 (lo s) (hi s) k) S1x128.size
        (k0_pay8 s (lo s) (hi s) k (VecWindow.window (cntStep s k X7) (k0_off2 (lo s) (hi s) k) S1x128.size (k0_off2_inb i (lo s) (hi s) hw k h2)))
        = cntStep s (k + 1) X7 := by
      rw [pay8_eq hs k b rfl]
      unfold cntStep
      rw [show VecWindow.window (s := S16x128) (rowsUpd X7 (lo s).toNat k (cntRow s)) (k0_off2 (lo s) (hi s) k) S1x128.size (k0_off2_inb i (lo s) (hi s) hw k h2)
        = rowOf X7 b from window_rowsUpd X7 _ _ _ b rfl _ (off2_eq hs k) _]
      exact put_rowsUpd X7 _ _ _ b rfl _ (off2_eq hs k)
    unfold k0_t1_body
    simp only [Prog.lift, Prog.bind_op, Prog.bind_ret, Prog.pure_eq_ret, Prog.bind_assoc]
    rw [← e6, ← e7]
    iintro ⟨H6, H7⟩
    iapply (Owned.load_rule Variants.none (c : Thread nD τ) none Set.univ (m := arg6)) $$ H6
    iintro H6
    iapply (Owned.load_rule Variants.none (c : Thread nD τ) none Set.univ (m := arg6)) $$ H6
    iintro H6
    iapply (Owned.store_rule Variants.none (c : Thread nD τ) none Set.univ (m := arg6)) $$ H6
    iintro H6
    iapply (Owned.load_rule Variants.none (c : Thread nD τ) none Set.univ (m := arg7)) $$ H7
    iintro H7
    iapply (Owned.load_rule Variants.none (c : Thread nD τ) none Set.univ (m := arg7)) $$ H7
    iintro H7
    iapply (Owned.store_rule Variants.none (c : Thread nD τ) none Set.univ (m := arg7)) $$ H7
    iintro H7
    sl_step
    isplitl [H6]
    · iexact H6
    iexact H7

/-- The result's loop: the result's rows of the block's segments, the block's weighted rows added. -/
theorem t3_triple (h4 : k0_cond4 i = 1#1) (init : BitVec 32) (X5 G : Vec F S16x512 .f32)
    {α : Type} (kk : BitVec 32 → Prog (TpuEff nD τ sig (Elt F) Λ₀ .tc) α) (Q : α → sProp 𝕄) :
    iprop(owns (c : Thread nD τ) arg5 fullShare X5 ∗ owns (c : Thread nD τ) arg8 fullShare G)
      ⊢ iprop((∀ acc, iprop(owns (c : Thread nD τ) arg5 fullShare (outStep f s G (cnt s) X5) ∗ owns (c : Thread nD τ) arg8 fullShare G)
          -∗ wp frame (wpE (defs₀ (F := F)) Variants.none c none) Set.univ (kk acc) Q)
        -∗ wp frame (wpE (defs₀ (F := F)) Variants.none c none) Set.univ
          (Scf.Loop.for (k0_t3_loop (lo s) (hi s)) (k0_t3_ok i (lo s) (hi s) hw h4) init
            (k0_t3_body i arg2 harg2 arg3 harg3 arg4 harg4 arg5 harg5 arg6 harg6 arg7 harg7 arg8 harg8 f s (lo s) (hi s) hw h4) >>= kk) Q) := by
  have key := Scf.wp_for_bind frame (wpE (defs₀ (F := F)) Variants.none (c : Thread nD τ) none) Set.univ _ _ _ (k0_t3_ok i (lo s) (hi s) hw h4) init
    (k0_t3_body i arg2 harg2 arg3 harg3 arg4 harg4 arg5 harg5 arg6 harg6 arg7 harg7 arg8 harg8 f s (lo s) (hi s) hw h4)
    (fun k _ => iprop(owns (c : Thread nD τ) arg5 fullShare (outStep f s G k X5) ∗ owns (c : Thread nD τ) arg8 fullShare G)) (Q := Q) (kk := kk) ?_
  · have e0 : outStep f s G 0 X5 = X5 := rowsUpd_zero _ _ _
    rw [show Scf.trips (k0_t3_loop (lo s) (hi s)).lb (k0_t3_loop (lo s) (hi s)).ub (k0_t3_loop (lo s) (hi s)).st = cnt s from t3_trips hs, e0] at key
    exact key
  · intro k acc
    have hk : k.val < cnt s := lt_of_lt_of_eq k.isLt (t3_trips hs)
    have hb := row_lt hs hk
    let b : Fin 16 := ⟨(lo s).toNat + k.val, hb⟩
    have e5 : VecWindow.put (outStep f s G k X5) (k0_off5 (lo s) (hi s) k) S1x512.size
        (k0_pay14 f s (lo s) (hi s) k (VecWindow.window G (k0_off5 (lo s) (hi s) k) S1x512.size (k0_off5_inb i (lo s) (hi s) hw k h4))
          (VecWindow.window (outStep f s G k X5) (k0_off5 (lo s) (hi s) k) S1x512.size (k0_off5_inb i (lo s) (hi s) hw k h4)))
        = outStep f s G (k + 1) X5 := by
      rw [pay14_eq hs f k b rfl]
      unfold outStep
      rw [show VecWindow.window (s := S16x512) (rowsUpd X5 (lo s).toNat k fun b => outRow f s b (rowOf G b)) (k0_off5 (lo s) (hi s) k) S1x512.size (k0_off5_inb i (lo s) (hi s) hw k h4)
        = rowOf X5 b from window_rowsUpd X5 _ _ _ b rfl _ (off5_eq hs k) _]
      have eG : VecWindow.window (s := S16x512) G (k0_off5 (lo s) (hi s) k) S1x512.size (k0_off5_inb i (lo s) (hi s) hw k h4) = rowOf G b := by
        have := window_rowsUpd G b.val 0 (fun _ x => x) b rfl _ (off5_eq hs k) (k0_off5_inb i (lo s) (hi s) hw k h4)
        rw [rowsUpd_zero] at this
        exact this
      rw [eG]
      exact put_rowsUpd X5 _ _ (fun b => outRow f s b (rowOf G b)) b rfl _ (off5_eq hs k)
    unfold k0_t3_body
    simp only [Prog.lift, Prog.bind_op, Prog.bind_ret, Prog.pure_eq_ret, Prog.bind_assoc]
    rw [← e5]
    iintro ⟨H5, H8⟩
    iapply (Owned.load_rule Variants.none (c : Thread nD τ) none Set.univ (m := arg8)) $$ H8
    iintro H8
    iapply (Owned.load_rule Variants.none (c : Thread nD τ) none Set.univ (m := arg5)) $$ H5
    iintro H5
    iapply (Owned.load_rule Variants.none (c : Thread nD τ) none Set.univ (m := arg5)) $$ H5
    iintro H5
    iapply (Owned.store_rule Variants.none (c : Thread nD τ) none Set.univ (m := arg5)) $$ H5
    iintro H5
    sl_step
    isplitl [H5]
    · iexact H5
    iexact H8

omit hs

/-- The remainder loops return at once. -/
theorem t2_ret (h2 : k0_cond2 i = 1#1) (init : BitVec 32) (s' : Vec F S1024x1 .i32) (hw' : k0_chk1 i (lo s') (hi s')) :
    Scf.Loop.for (k0_t2_loop (lo s') (hi s')) (k0_t2_ok i (lo s') (hi s') hw' h2) init
      (k0_t2_body (F := F) i arg2 harg2 arg3 harg3 arg4 harg4 arg5 harg5 arg6 harg6 arg7 harg7 arg8 harg8 f s' (lo s') (hi s') hw' h2) = .ret init :=
  Scf.for_rem_eq _ _ _ _ _

theorem t4_ret (h4 : k0_cond4 i = 1#1) (init : BitVec 32) (s' : Vec F S1024x1 .i32) (hw' : k0_chk1 i (lo s') (hi s')) :
    Scf.Loop.for (k0_t4_loop (lo s') (hi s')) (k0_t4_ok i (lo s') (hi s') hw' h4) init
      (k0_t4_body (F := F) i arg2 harg2 arg3 harg3 arg4 harg4 arg5 harg5 arg6 harg6 arg7 harg7 arg8 harg8 f s' (lo s') (hi s') hw' h4) = .ret init :=
  Scf.for_rem_eq _ _ _ _ _

end Cert.KernelIdeal.Hand

end
-- ==== Proof.Body.lean ====
/-
  Hand-written, untrusted. The triple of the kernel's body at one grid point, by the branches the point takes: in the
  first phase the block is added to the sums and the counts (zeroed at the first point; the global context computed
  from them after the last), in the second phase the block's weighted rows are added to the result (zeroed at
  the phase's first point).
-/
module

public import proofs.«01_k».proof.Proof.Loops

@[expose] public section

set_option maxRecDepth 16384

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The point is the first of the grid, as the kernel computes it. -/
abbrev cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32
/-- The block is the last of its phase, as the kernel computes it. -/
abbrev cond3 (i : grid0.Coords) : BitVec 1 :=
  Scalar.cmpi .ne (Scalar.extui (Scalar.cmpi .eq (BitVec.ofNat 32 (i 1).val) 15#32) : BitVec 32) 0#32

/-- The global context of the sums and the counts. -/
def gctx (X7 : Vec F S16x128 .f32) (X6 : Vec F S16x512 .f32) (W : Vec F S512x512 .f32) : Vec F S16x512 .f32 :=
  k0_pay12 (VecWindow.window (s := S16x128) X7 ![0, 0] S16x1.size inb_S16x128_S16x1_0_0) X6 W

variable (c : Dev nD) (i : grid0.Coords)
  (arg2 : Memref sig .tc .vmem S1024x512 .f32) (harg2 : arg2.IsWhole) (arg3 : Memref sig .tc .vmem S1024x1 .i32) (harg3 : arg3.IsWhole)
  (arg4 : Memref sig .tc .vmem S512x512 .f32) (harg4 : arg4.IsWhole) (arg5 : Memref sig .tc .vmem S16x512 .f32) (harg5 : arg5.IsWhole)
  (arg6 : Memref sig .tc .vmem S16x512 .f32) (harg6 : arg6.IsWhole) (arg7 : Memref sig .tc .vmem S16x128 .f32) (harg7 : arg7.IsWhole)
  (arg8 : Memref sig .tc .vmem S16x512 .f32) (harg8 : arg8.IsWhole)
  (f : Vec F S1024x512 .f32) (W : Vec F S512x512 .f32) {s : Vec F S1024x1 .i32} (hs : InRange s)
include hs

/-- At the first point: the sums and the counts start over, then take the block. -/
theorem body_first (h1 : cond1 i = 1#1) (h2 : k0_cond2 i = 1#1) (h3 : ¬ cond3 i = 1#1) (h4 : ¬ k0_cond4 i = 1#1)
    (X5 X6 X8 : Vec F S16x512 .f32) (X7 : Vec F S16x128 .f32) (Q : PUnit → sProp 𝕄) :
    iprop(owns (c : Thread nD τ) arg2 fullShare f ∗ owns (c : Thread nD τ) arg3 fullShare s ∗ owns (c : Thread nD τ) arg4 fullShare W ∗ owns (c : Thread nD τ) arg5 fullShare X5 ∗ owns (c : Thread nD τ) arg6 fullShare X6 ∗ owns (c : Thread nD τ) arg7 fullShare X7 ∗ owns (c : Thread nD τ) arg8 fullShare X8
        ∗ (iprop(owns (c : Thread nD τ) arg2 fullShare f ∗ owns (c : Thread nD τ) arg3 fullShare s ∗ owns (c : Thread nD τ) arg4 fullShare W ∗ owns (c : Thread nD τ) arg5 fullShare X5 ∗ owns (c : Thread nD τ) arg6 fullShare (accStep f s (cnt s) k0_pay4) ∗ owns (c : Thread nD τ) arg7 fullShare (cntStep s (cnt s) k0_pay5) ∗ owns (c : Thread nD τ) arg8 fullShare X8) -∗ Q ⟨⟩))
      ⊢ wp frame (wpE (defs₀ (F := F)) Variants.none c none) Set.univ
          (cc0__body_skel i arg2 harg2 arg3 harg3 arg4 harg4 arg5 harg5 arg6 harg6 arg7 harg7 arg8 harg8) Q := by
  have hw := chk1 hs i
  unfold cc0__body_skel
  simp only [Prog.lift, Prog.bind_op, Prog.bind_ret, Prog.pure_eq_ret, Prog.bind_assoc, dif_pos h1, dif_pos h2, dif_neg h3, dif_neg h4]
  iintro ⟨H2, H3, H4, H5, H6, H7, H8, HQ⟩
  iapply (Owned.load_full Variants.none (c : Thread nD τ) none Set.univ (m := arg2)) $$ H2
  iintro H2
  iapply (Owned.load_full Variants.none (c : Thread nD τ) none Set.univ (m := arg3)) $$ H3
  iintro H3
  rw [wp_assume_of Variants.none (c : Thread nD τ) none Set.univ (d := k0_chk1.dec _ _ _) hw]
  iapply (Owned.load_full Variants.none (c : Thread nD τ) none Set.univ (m := arg6)) $$ H6
  iintro H6
  iapply (Owned.store_full Variants.none (c : Thread nD τ) none Set.univ (m := arg6)) $$ H6
  iintro H6
  iapply (Owned.load_full Variants.none (c : Thread nD τ) none Set.univ (m := arg7)) $$ H7
  iintro H7
  iapply (Owned.store_full Variants.none (c : Thread nD τ) none Set.univ (m := arg7)) $$ H7
  iintro H7
  iapply (t1_triple c i arg2 harg2 arg3 harg3 arg4 harg4 arg5 harg5 arg6 harg6 arg7 harg7 arg8 harg8 f hs hw h2 0#32 k0_pay4 k0_pay5) $$ [H6 H7]
  · isplitl [H6]
    · iexact H6
    iexact H7
  iintro %a ⟨H6, H7⟩
  rw [t2_ret i arg2 harg2 arg3 harg3 arg4 harg4 arg5 harg5 arg6 harg6 arg7 harg7 arg8 harg8 f h2 a s hw]
  simp only [Prog.bind_ret]
  sl_step
  iapply HQ
  isplitl [H2]; · iexact H2
  isplitl [H3]; · iexact H3
  isplitl [H4]; · iexact H4
  isplitl [H5]; · iexact H5
  isplitl [H6]; · iexact H6
  isplitl [H7]; · iexact H7
  iexact H8

/-- At a later point of the first phase but the last: the sums and the counts take the block. -/
theorem body_mid (h1 : ¬ cond1 i = 1#1) (h2 : k0_cond2 i = 1#1) (h3 : ¬ cond3 i = 1#1) (h4 : ¬ k0_cond4 i = 1#1)
    (X5 X6 X8 : Vec F S16x512 .f32) (X7 : Vec F S16x128 .f32) (Q : PUnit → sProp 𝕄) :
    iprop(owns (c : Thread nD τ) arg2 fullShare f ∗ owns (c : Thread nD τ) arg3 fullShare s ∗ owns (c : Thread nD τ) arg4 fullShare W ∗ owns (c : Thread nD τ) arg5 fullShare X5 ∗ owns (c : Thread nD τ) arg6 fullShare X6 ∗ owns (c : Thread nD τ) arg7 fullShare X7 ∗ owns (c : Thread nD τ) arg8 fullShare X8
        ∗ (iprop(owns (c : Thread nD τ) arg2 fullShare f ∗ owns (c : Thread nD τ) arg3 fullShare s ∗ owns (c : Thread nD τ) arg4 fullShare W ∗ owns (c : Thread nD τ) arg5 fullShare X5 ∗ owns (c : Thread nD τ) arg6 fullShare (accStep f s (cnt s) X6) ∗ owns (c : Thread nD τ) arg7 fullShare (cntStep s (cnt s) X7) ∗ owns (c : Thread nD τ) arg8 fullShare X8) -∗ Q ⟨⟩))
      ⊢ wp frame (wpE (defs₀ (F := F)) Variants.none c none) Set.univ
          (cc0__body_skel i arg2 harg2 arg3 harg3 arg4 harg4 arg5 harg5 arg6 harg6 arg7 harg7 arg8 harg8) Q := by
  have hw := chk1 hs i
  unfold cc0__body_skel
  simp only [Prog.lift, Prog.bind_op, Prog.bind_ret, Prog.pure_eq_ret, Prog.bind_assoc, dif_neg h1, dif_pos h2, dif_neg h3, dif_neg h4]
  iintro ⟨H2, H3, H4, H5, H6, H7, H8, HQ⟩
  iapply (Owned.load_full Variants.none (c : Thread nD τ) none Set.univ (m := arg2)) $$ H2
  iintro H2
  iapply (Owned.load_full Variants.none (c : Thread nD τ) none Set.univ (m := arg3)) $$ H3
  iintro H3
  rw [wp_assume_of Variants.none (c : Thread nD τ) none Set.univ (d := k0_chk1.dec _ _ _) hw]
  iapply (t1_triple c i arg2 harg2 arg3 harg3 arg4 harg4 arg5 harg5 arg6 harg6 arg7 harg7 arg8 harg8 f hs hw h2 0#32 X6 X7) $$ [H6 H7]
  · isplitl [H6]
    · iexact H6
    iexact H7
  iintro %a ⟨H6, H7⟩
  rw [t2_ret i arg2 harg2 arg3 harg3 arg4 harg4 arg5 harg5 arg6 harg6 arg7 harg7 arg8 harg8 f h2 a s hw]
  simp only [Prog.bind_ret]
  sl_step
  iapply HQ
  isplitl [H2]; · iexact H2
  isplitl [H3]; · iexact H3
  isplitl [H4]; · iexact H4
  isplitl [H5]; · iexact H5
  isplitl [H6]; · iexact H6
  isplitl [H7]; · iexact H7
  iexact H8

/-- At the last point of the first phase: the sums and the counts take the block, and the global context is computed from them. -/
theorem body_last (h1 : ¬ cond1 i = 1#1) (h2 : k0_cond2 i = 1#1) (h3 : cond3 i = 1#1) (h4 : ¬ k0_cond4 i = 1#1)
    (X5 X6 X8 : Vec F S16x512 .f32) (X7 : Vec F S16x128 .f32) (Q : PUnit → sProp 𝕄) :
    iprop(owns (c : Thread nD τ) arg2 fullShare f ∗ owns (c : Thread nD τ) arg3 fullShare s ∗ owns (c : Thread nD τ) arg4 fullShare W ∗ owns (c : Thread nD τ) arg5 fullShare X5 ∗ owns (c : Thread nD τ) arg6 fullShare X6 ∗ owns (c : Thread nD τ) arg7 fullShare X7 ∗ owns (c : Thread nD τ) arg8 fullShare X8
        ∗ (iprop(owns (c : Thread nD τ) arg2 fullShare f ∗ owns (c : Thread nD τ) arg3 fullShare s ∗ owns (c : Thread nD τ) arg4 fullShare W ∗ owns (c : Thread nD τ) arg5 fullShare X5 ∗ owns (c : Thread nD τ) arg6 fullShare (accStep f s (cnt s) X6) ∗ owns (c : Thread nD τ) arg7 fullShare (cntStep s (cnt s) X7) ∗ owns (c : Thread nD τ) arg8 fullShare (gctx (cntStep s (cnt s) X7) (accStep f s (cnt s) X6) W)) -∗ Q ⟨⟩))
      ⊢ wp frame (wpE (defs₀ (F := F)) Variants.none c none) Set.univ
          (cc0__body_skel i arg2 harg2 arg3 harg3 arg4 harg4 arg5 harg5 arg6 harg6 arg7 harg7 arg8 harg8) Q := by
  have hw := chk1 hs i
  unfold cc0__body_skel
  simp only [Prog.lift, Prog.bind_op, Prog.bind_ret, Prog.pure_eq_ret, Prog.bind_assoc, dif_neg h1, dif_pos h2, dif_pos h3, dif_neg h4]
  iintro ⟨H2, H3, H4, H5, H6, H7, H8, HQ⟩
  iapply (Owned.load_full Variants.none (c : Thread nD τ) none Set.univ (m := arg2)) $$ H2
  iintro H2
  iapply (Owned.load_full Variants.none (c : Thread nD τ) none Set.univ (m := arg3)) $$ H3
  iintro H3
  rw [wp_assume_of Variants.none (c : Thread nD τ) none Set.univ (d := k0_chk1.dec _ _ _) hw]
  iapply (t1_triple c i arg2 harg2 arg3 harg3 arg4 harg4 arg5 harg5 arg6 harg6 arg7 harg7 arg8 harg8 f hs hw h2 0#32 X6 X7) $$ [H6 H7]
  · isplitl [H6]
    · iexact H6
    iexact H7
  iintro %a ⟨H6, H7⟩
  rw [t2_ret i arg2 harg2 arg3 harg3 arg4 harg4 arg5 harg5 arg6 harg6 arg7 harg7 arg8 harg8 f h2 a s hw]
  simp only [Prog.bind_ret]
  iapply (Owned.load_rule Variants.none (c : Thread nD τ) none Set.univ (m := arg7)) $$ H7
  iintro H7
  iapply (Owned.load_full Variants.none (c : Thread nD τ) none Set.univ (m := arg6)) $$ H6
  iintro H6
  iapply (Owned.load_full Variants.none (c : Thread nD τ) none Set.univ (m := arg4)) $$ H4
  iintro H4
  iapply (Owned.load_full Variants.none (c : Thread nD τ) none Set.univ (m := arg8)) $$ H8
  iintro H8
  iapply (Owned.store_full Variants.none (c : Thread nD τ) none Set.univ (m := arg8)) $$ H8
  iintro H8
  sl_step
  iapply HQ
  isplitl [H2]; · iexact H2
  isplitl [H3]; · iexact H3
  isplitl [H4]; · iexact H4
  isplitl [H5]; · iexact H5
  isplitl [H6]; · iexact H6
  isplitl [H7]; · iexact H7
  iexact H8

/-- At the first point of the second phase: the result starts over, then takes the block. -/
theorem body_zero (h1 : ¬ cond1 i = 1#1) (h2 : ¬ k0_cond2 i = 1#1) (h4 : k0_cond4 i = 1#1) (h5 : k0_cond5 i = 1#1)
    (X5 X6 X8 : Vec F S16x512 .f32) (X7 : Vec F S16x128 .f32) (Q : PUnit → sProp 𝕄) :
    iprop(owns (c : Thread nD τ) arg2 fullShare f ∗ owns (c : Thread nD τ) arg3 fullShare s ∗ owns (c : Thread nD τ) arg4 fullShare W ∗ owns (c : Thread nD τ) arg5 fullShare X5 ∗ owns (c : Thread nD τ) arg6 fullShare X6 ∗ owns (c : Thread nD τ) arg7 fullShare X7 ∗ owns (c : Thread nD τ) arg8 fullShare X8
        ∗ (iprop(owns (c : Thread nD τ) arg2 fullShare f ∗ owns (c : Thread nD τ) arg3 fullShare s ∗ owns (c : Thread nD τ) arg4 fullShare W ∗ owns (c : Thread nD τ) arg5 fullShare (outStep f s X8 (cnt s) k0_pay13) ∗ owns (c : Thread nD τ) arg6 fullShare X6 ∗ owns (c : Thread nD τ) arg7 fullShare X7 ∗ owns (c : Thread nD τ) arg8 fullShare X8) -∗ Q ⟨⟩))
      ⊢ wp frame (wpE (defs₀ (F := F)) Variants.none c none) Set.univ
          (cc0__body_skel i arg2 harg2 arg3 harg3 arg4 harg4 arg5 harg5 arg6 harg6 arg7 harg7 arg8 harg8) Q := by
  have hw := chk1 hs i
  unfold cc0__body_skel
  simp only [Prog.lift, Prog.bind_op, Prog.bind_ret, Prog.pure_eq_ret, Prog.bind_assoc, dif_neg h1, dif_neg h2, dif_pos h4, dif_pos h5]
  iintro ⟨H2, H3, H4, H5, H6, H7, H8, HQ⟩
  iapply (Owned.load_full Variants.none (c : Thread nD τ) none Set.univ (m := arg2)) $$ H2
  iintro H2
  iapply (Owned.load_full Variants.none (c : Thread nD τ) none Set.univ (m := arg3)) $$ H3
  iintro H3
  rw [wp_assume_of Variants.none (c : Thread nD τ) none Set.univ (d := k0_chk1.dec _ _ _) hw]
  iapply (Owned.load_full Variants.none (c : Thread nD τ) none Set.univ (m := arg5)) $$ H5
  iintro H5
  iapply (Owned.store_full Variants.none (c : Thread nD τ) none Set.univ (m := arg5)) $$ H5
  iintro H5
  iapply (t3_triple c i arg2 harg2 arg3 harg3 arg4 harg4 arg5 harg5 arg6 harg6 arg7 harg7 arg8 harg8 f hs hw h4 0#32 k0_pay13 X8) $$ [H5 H8]
  · isplitl [H5]
    · iexact H5
    iexact H8
  iintro %a ⟨H5, H8⟩
  rw [t4_ret i arg2 harg2 arg3 harg3 arg4 harg4 arg5 harg5 arg6 harg6 arg7 harg7 arg8 harg8 f h4 a s hw]
  simp only [Prog.bind_ret]
  sl_step
  iapply HQ
  isplitl [H2]; · iexact H2
  isplitl [H3]; · iexact H3
  isplitl [H4]; · iexact H4
  isplitl [H5]; · iexact H5
  isplitl [H6]; · iexact H6
  isplitl [H7]; · iexact H7
  iexact H8

/-- At a later point of the second phase: the result takes the block. -/
theorem body_next (h1 : ¬ cond1 i = 1#1) (h2 : ¬ k0_cond2 i = 1#1) (h4 : k0_cond4 i = 1#1) (h5 : ¬ k0_cond5 i = 1#1)
    (X5 X6 X8 : Vec F S16x512 .f32) (X7 : Vec F S16x128 .f32) (Q : PUnit → sProp 𝕄) :
    iprop(owns (c : Thread nD τ) arg2 fullShare f ∗ owns (c : Thread nD τ) arg3 fullShare s ∗ owns (c : Thread nD τ) arg4 fullShare W ∗ owns (c : Thread nD τ) arg5 fullShare X5 ∗ owns (c : Thread nD τ) arg6 fullShare X6 ∗ owns (c : Thread nD τ) arg7 fullShare X7 ∗ owns (c : Thread nD τ) arg8 fullShare X8
        ∗ (iprop(owns (c : Thread nD τ) arg2 fullShare f ∗ owns (c : Thread nD τ) arg3 fullShare s ∗ owns (c : Thread nD τ) arg4 fullShare W ∗ owns (c : Thread nD τ) arg5 fullShare (outStep f s X8 (cnt s) X5) ∗ owns (c : Thread nD τ) arg6 fullShare X6 ∗ owns (c : Thread nD τ) arg7 fullShare X7 ∗ owns (c : Thread nD τ) arg8 fullShare X8) -∗ Q ⟨⟩))
      ⊢ wp frame (wpE (defs₀ (F := F)) Variants.none c none) Set.univ
          (cc0__body_skel i arg2 harg2 arg3 harg3 arg4 harg4 arg5 harg5 arg6 harg6 arg7 harg7 arg8 harg8) Q := by
  have hw := chk1 hs i
  unfold cc0__body_skel
  simp only [Prog.lift, Prog.bind_op, Prog.bind_ret, Prog.pure_eq_ret, Prog.bind_assoc, dif_neg h1, dif_neg h2, dif_pos h4, dif_neg h5]
  iintro ⟨H2, H3, H4, H5, H6, H7, H8, HQ⟩
  iapply (Owned.load_full Variants.none (c : Thread nD τ) none Set.univ (m := arg2)) $$ H2
  iintro H2
  iapply (Owned.load_full Variants.none (c : Thread nD τ) none Set.univ (m := arg3)) $$ H3
  iintro H3
  rw [wp_assume_of Variants.none (c : Thread nD τ) none Set.univ (d := k0_chk1.dec _ _ _) hw]
  iapply (t3_triple c i arg2 harg2 arg3 harg3 arg4 harg4 arg5 harg5 arg6 harg6 arg7 harg7 arg8 harg8 f hs hw h4 0#32 X5 X8) $$ [H5 H8]
  · isplitl [H5]
    · iexact H5
    iexact H8
  iintro %a ⟨H5, H8⟩
  rw [t4_ret i arg2 harg2 arg3 harg3 arg4 harg4 arg5 harg5 arg6 harg6 arg7 harg7 arg8 harg8 f h4 a s hw]
  simp only [Prog.bind_ret]
  sl_step
  iapply HQ
  isplitl [H2]; · iexact H2
  isplitl [H3]; · iexact H3
  isplitl [H4]; · iexact H4
  isplitl [H5]; · iexact H5
  isplitl [H6]; · iexact H6
  isplitl [H7]; · iexact H7
  iexact H8

end Cert.KernelIdeal.Hand

end
-- ==== Proof.Data.lean ====
/-
  Hand-written, untrusted. The pipeline's data: what the scratch arrays hold between two points, what the body leaves
  in each window's staging buffer, and what follows of the buffers it finds. The result's buffer is left as found
  throughout the first phase; from the second phase's first point on it holds the named sums.
-/
module

public import proofs.«01_k».proof.Proof.Gen.KernelIdeal.Frame
public import proofs.«01_k».proof.Proof.Body

@[expose] public section

set_option maxRecDepth 16384

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (c : Dev nD)

/-! ## The grid -/

/-- Point `n` of the grid. -/
def pt (n : ℕ) : Fin cfg0.N := ⟨n % 32, lt_of_lt_of_eq (Nat.mod_lt _ (by decide)) N_0.symm⟩

theorem lt32 (t : Fin cfg0.N) : t.val < 32 := lt_of_lt_of_eq t.isLt N_0
theorem pt_val (t : Fin cfg0.N) : pt t.val = t := Fin.ext (Nat.mod_eq_of_lt (lt32 t))
theorem val_pt {n : ℕ} (h : n < 32) : (pt n).val = n := Nat.mod_eq_of_lt h

theorem cond1_iff : ∀ t : Fin cfg0.N, cond1 (grid0.coords t) = 1#1 ↔ t.val = 0 :=
  (by decide +kernel : ∀ t : Fin grid0.N, cond1 (grid0.coords t) = 1#1 ↔ t.val = 0)
theorem cond2_iff : ∀ t : Fin cfg0.N, k0_cond2 (grid0.coords t) = 1#1 ↔ t.val < 16 :=
  (by decide +kernel : ∀ t : Fin grid0.N, k0_cond2 (grid0.coords t) = 1#1 ↔ t.val < 16)
theorem cond3_iff : ∀ t : Fin cfg0.N, cond3 (grid0.coords t) = 1#1 ↔ t.val % 16 = 15 :=
  (by decide +kernel : ∀ t : Fin grid0.N, cond3 (grid0.coords t) = 1#1 ↔ t.val % 16 = 15)
theorem cond4_iff : ∀ t : Fin cfg0.N, k0_cond4 (grid0.coords t) = 1#1 ↔ ¬ t.val < 16 :=
  (by decide +kernel : ∀ t : Fin grid0.N, k0_cond4 (grid0.coords t) = 1#1 ↔ ¬ t.val < 16)
theorem cond5_iff : ∀ t : Fin cfg0.N, k0_cond5 (grid0.coords t) = 1#1 ↔ t.val % 16 = 0 :=
  (by decide +kernel : ∀ t : Fin grid0.N, k0_cond5 (grid0.coords t) = 1#1 ↔ t.val % 16 = 0)

/-! ## The values -/

/-- The feature rows of point `n`'s block. -/
def fb (n : ℕ) : Vec F S1024x512 .f32 := iblk m c 0 (pt n)
/-- The segment ids of point `n`'s block. -/
def sb (n : ℕ) : Vec F S1024x1 .i32 := iblk m c 1 (pt n)
/-- The weight matrix. -/
def wb : Vec F S512x512 .f32 := iblk m c 2 (pt 0)

/-- The feature sums after `n` blocks. -/
def accN : ℕ → Vec F S16x512 .f32
  | 0 => k0_pay4
  | n + 1 => accStep (fb m c n) (sb m c n) (cnt (sb m c n)) (accN n)

/-- The counts after `n` blocks. -/
def cntN : ℕ → Vec F S16x128 .f32
  | 0 => k0_pay5
  | n + 1 => cntStep (sb m c n) (cnt (sb m c n)) (cntN n)

/-- The global context. -/
def gN : Vec F S16x512 .f32 := gctx (cntN m c 16) (accN m c 16) (wb m c)

/-- The result after `n` blocks of the second phase. -/
def outN : ℕ → Vec F S16x512 .f32
  | 0 => k0_pay13
  | n + 1 => outStep (fb m c (16 + n)) (sb m c (16 + n)) (gN m c) (cnt (sb m c (16 + n))) (outN n)

/-- What point `n`'s body leaves in the result's buffer, finding `Y` there. -/
def leftOut (n : ℕ) (Y : Vec F S16x512 .f32) : Vec F S16x512 .f32 :=
  if n < 16 then Y else outStep (fb m c n) (sb m c n) (gN m c) (cnt (sb m c n)) (if n = 16 then k0_pay13 else Y)

/-- The relation between what the body finds and what it leaves: inputs as found, the result stepped. -/
def afterR : (w : Fin cfg0.W) → Fin cfg0.N → (Y X : (cfg0.win w).block.Idx → Elt F (cfg0.win w).elt) → Prop
  | 0 => fun _ Y X => X = Y
  | 1 => fun _ Y X => X = Y
  | 2 => fun _ Y X => X = Y
  | 3 => fun t Y X => X = leftOut m c t.val Y
  | ⟨_ + 4, h⟩ => absurd h (Nat.not_lt.2 (Nat.le_add_left _ _))

/-- What the scratch arrays hold once `n` points have run: the sums and the counts between the first point's
    and the first phase's end, the global context from the first phase's end on. -/
def Holds (n : ℕ) (a : Vec F S16x512 .f32) (k : Vec F S16x128 .f32) (g : Vec F S16x512 .f32) : Prop :=
  (0 < n → n ≤ 16 → a = accN m c n ∧ k = cntN m c n) ∧ (16 ≤ n → g = gN m c)

/-- The invariant between two points. -/
def PhiN (n : ℕ) : sProp 𝕄 :=
  iprop(∃ a k g, ⌜Holds m c n a k g⌝ ∗ owns (c : Thread nD τ) (Memref.whole cc0_scratch0) fullShare a
    ∗ owns (c : Thread nD τ) (Memref.whole cc0_scratch1) fullShare k ∗ owns (c : Thread nD τ) (Memref.whole cc0_scratch2) fullShare g ∗ ∃ r, prngReg c r)

/-- The pipeline's data on core `c`. -/
def rdat : RDat τ (Elt F) Unit ℕ (UR sig nD τ) ℕ cfg0 c where
  A w := V m c (Pipeline.arrRef spec0 w)
  after := afterR m c
  Φ t := PhiN m c t.val
  q _ := fullShare
  owed _ := 0

theorem A_eq (w : Fin cfg0.W) : (rdat m c).A w = V m c (Pipeline.arrRef spec0 w) := rfl

/-! ## What the body finds -/

theorem finds_0 (t : Fin cfg0.N) (X) (h : (rdat m c).Finds 0 t X) : X = fb m c t.val := by
  obtain ⟨d, rfl⟩ := ((rdat m c).finds_of_fetch (fetch0_0 t) X).mp h
  unfold fb
  rw [pt_val]
  rfl

theorem finds_1 (t : Fin cfg0.N) (X) (h : (rdat m c).Finds 1 t X) : X = sb m c t.val := by
  obtain ⟨d, rfl⟩ := ((rdat m c).finds_of_fetch (fetch0_1 t) X).mp h
  unfold sb
  rw [pt_val]
  rfl

theorem finds_2 (n : ℕ) : ∀ (hn : n < cfg0.N) (X), (rdat m c).Finds 2 ⟨n, hn⟩ X → X = wb m c := by
  induction n with
  | zero =>
    intro hn X h
    obtain ⟨d, rfl⟩ := ((rdat m c).finds_of_fetch ((fetch0_2 ⟨0, hn⟩).mpr rfl) X).mp h
    rfl
  | succ n ih =>
    intro hn X h
    have hn' : n + 1 < 32 := lt_of_lt_of_eq hn N_0
    have hf : (cfg0.win 2).fetch ⟨n + 1, hn⟩ = false := by
      rw [Bool.eq_false_iff]; intro hh
      have h3 : (n + 1) % 32 = 0 := (fetch0_2 ⟨n + 1, hn⟩).mp hh
      omega
    rcases ((rdat m c).finds_of_pos hf (Nat.succ_ne_zero n) X).mp h with hfl | ⟨Y, hY, hXY⟩
    · exact absurd hfl (by rw [Bool.not_eq_true]; rfl)
    · have hXY' : X = Y := hXY
      rw [hXY']
      exact ih _ Y hY

/-! ## What the result's buffer holds in the second phase -/

theorem leaves_3 (n : ℕ) : ∀ (hn : 16 + n < cfg0.N) (X), (rdat m c).Leaves 3 ⟨16 + n, hn⟩ X → X = outN m c (n + 1) := by
  induction n with
  | zero =>
    rintro hn X ⟨Y, -, hXY⟩
    have hXY' : X = leftOut m c 16 Y := hXY
    rw [hXY']
    rfl
  | succ n ih =>
    rintro hn X ⟨Y, hY, hXY⟩
    have hn' : 16 + (n + 1) < 32 := lt_of_lt_of_eq hn N_0
    have hXY' : X = leftOut m c (16 + (n + 1)) Y := hXY
    have hYn : Y = outN m c (n + 1) := by
      rcases ((rdat m c).finds_of_pos (t := ⟨16 + (n + 1), hn⟩) rfl (by show ¬ 16 + (n + 1) = 0; omega) Y).mp hY with hfl | hl
      · have h3 : (16 + (n + 1) - 1) % 32 = 31 := (flush0_3 _).mp hfl
        omega
      · exact ih _ Y hl
    rw [hXY', hYn]
    unfold leftOut
    rw [if_neg (by omega), if_neg (by omega)]
    rfl

/-- The result's array after the run: the whole of it written once, at the last point, with the last sums. -/
theorem arrAt_3 (G) (h : (rdat m c).ArrAt 3 cfg0.N G) :
    ∃ G₀, G = ((cfg0.win 3).blk (pt 31)).view.write (Elt F) G₀ ((cfg0.win 3).cut (grid0.coords (pt 31)) (outN m c 16)) Finset.univ := by
  have hN : cfg0.N = 31 + 1 := N_0
  rw [hN] at h
  unfold RDat.ArrAt at h
  have h31 : (31 : ℕ) < cfg0.N := by rw [hN]; decide
  have hpt : pt 31 = ⟨31, h31⟩ := Fin.ext rfl
  dsimp only at h
  rw [dif_pos h31, if_pos ((flush0_3 ⟨31, h31⟩).mpr rfl)] at h
  obtain ⟨G₀, X, -, hX, hG⟩ := h
  refine ⟨G₀, ?_⟩
  rw [hpt, hG, leaves_3 m c 15 h31 X hX]

end Cert.KernelIdeal.Hand

end
-- ==== Proof.Run.lean ====
/-
  Hand-written, untrusted. The kernel's run: the body at every point keeps the invariant, so the launch theorem gives
  termination, every argument as launched, every semaphore at zero, and the result's array holding the second phase's
  sums.
-/
module

public import proofs.«01_k».proof.Proof.Data
public import Idealize.ShloMosaic.Lib.Pipeline.Frame

@[expose] public section

set_option maxRecDepth 16384

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg) (c : Dev nD)

/-! ## The body at a point -/

section Point
variable
  (arg2 : Memref sig .tc .vmem S1024x512 .f32) (harg2 : arg2.IsWhole) (arg3 : Memref sig .tc .vmem S1024x1 .i32) (harg3 : arg3.IsWhole)
  (arg4 : Memref sig .tc .vmem S512x512 .f32) (harg4 : arg4.IsWhole) (arg5 : Memref sig .tc .vmem S16x512 .f32) (harg5 : arg5.IsWhole)
  (arg6 : Memref sig .tc .vmem S16x512 .f32) (harg6 : arg6.IsWhole) (arg7 : Memref sig .tc .vmem S16x128 .f32) (harg7 : arg7.IsWhole)
  (arg8 : Memref sig .tc .vmem S16x512 .f32) (harg8 : arg8.IsWhole)

/-- The body at point `t`: the scratch arrays go from what they hold after `t` points to what they hold after
    `t + 1`, the result's buffer is stepped, the inputs stay. -/
theorem body_point (t : Fin cfg0.N) (hs : InRange (sb m c t.val)) (X5 X6 X8 : Vec F S16x512 .f32) (X7 : Vec F S16x128 .f32)
    (hH : Holds m c t.val X6 X7 X8) :
    ∃ Y6 Y7 Y8, Holds m c (t.val + 1) Y6 Y7 Y8 ∧ ∀ Q : PUnit → sProp 𝕄,
      iprop(owns (c : Thread nD τ) arg2 fullShare (fb m c t.val) ∗ owns (c : Thread nD τ) arg3 fullShare (sb m c t.val) ∗ owns (c : Thread nD τ) arg4 fullShare (wb m c) ∗ owns (c : Thread nD τ) arg5 fullShare X5 ∗ owns (c : Thread nD τ) arg6 fullShare X6 ∗ owns (c : Thread nD τ) arg7 fullShare X7 ∗ owns (c : Thread nD τ) arg8 fullShare X8
        ∗ (iprop(owns (c : Thread nD τ) arg2 fullShare (fb m c t.val) ∗ owns (c : Thread nD τ) arg3 fullShare (sb m c t.val) ∗ owns (c : Thread nD τ) arg4 fullShare (wb m c) ∗ owns (c : Thread nD τ) arg5 fullShare (leftOut m c t.val X5) ∗ owns (c : Thread nD τ) arg6 fullShare Y6 ∗ owns (c : Thread nD τ) arg7 fullShare Y7 ∗ owns (c : Thread nD τ) arg8 fullShare Y8) -∗ Q ⟨⟩))
      ⊢ wp frame (wpE (defs₀ (F := F)) Variants.none c none) Set.univ
          (cc0__body_skel (grid0.coords t) arg2 harg2 arg3 harg3 arg4 harg4 arg5 harg5 arg6 harg6 arg7 harg7 arg8 harg8) Q := by
  have ht := lt32 t
  obtain ⟨hA, hG⟩ := hH
  have e1 := cond1_iff t
  have e2 := cond2_iff t
  have e3 := cond3_iff t
  have e4 := cond4_iff t
  have e5 := cond5_iff t
  generalize t.val = n at *
  generalize grid0.coords t = i at *
  by_cases h16 : n < 16
  · have hleft : leftOut m c n X5 = X5 := if_pos h16
    rw [hleft]
    by_cases h0 : n = 0
    · subst h0
      exact ⟨_, _, _, ⟨fun _ _ => ⟨rfl, rfl⟩, fun h => absurd h (by decide)⟩,
        fun Q => body_first c i arg2 harg2 arg3 harg3 arg4 harg4 arg5 harg5 arg6 harg6 arg7 harg7 arg8 harg8 _ _ hs
          (e1.mpr rfl) (e2.mpr h16) (fun h => absurd (e3.mp h) (by decide)) (fun h => (e4.mp h) h16) X5 X6 X8 X7 Q⟩
    · obtain ⟨rfl, rfl⟩ := hA (by omega) (by omega)
      by_cases h15 : n = 15
      · subst h15
        exact ⟨_, _, _, ⟨fun _ _ => ⟨rfl, rfl⟩, fun _ => rfl⟩,
          fun Q => body_last c i arg2 harg2 arg3 harg3 arg4 harg4 arg5 harg5 arg6 harg6 arg7 harg7 arg8 harg8 _ _ hs
            (fun h => h0 (e1.mp h)) (e2.mpr h16) (e3.mpr rfl) (fun h => (e4.mp h) h16) X5 _ X8 _ Q⟩
      · exact ⟨_, _, _, ⟨fun _ _ => ⟨rfl, rfl⟩, fun h => absurd h (by omega)⟩,
          fun Q => body_mid c i arg2 harg2 arg3 harg3 arg4 harg4 arg5 harg5 arg6 harg6 arg7 harg7 arg8 harg8 _ _ hs
            (fun h => h0 (e1.mp h)) (e2.mpr h16) (fun h => by have := e3.mp h; omega) (fun h => (e4.mp h) h16) X5 _ X8 _ Q⟩
  · obtain rfl := hG (by omega)
    have hH' : Holds m c (n + 1) X6 X7 (gN m c) := ⟨fun _ h => absurd h (by omega), fun _ => rfl⟩
    by_cases h16' : n = 16
    · have hleft : leftOut m c n X5 = outStep (fb m c n) (sb m c n) (gN m c) (cnt (sb m c n)) k0_pay13 := by
        unfold leftOut; rw [if_neg h16, if_pos h16']
      rw [hleft]
      exact ⟨_, _, _, hH', fun Q => body_zero c i arg2 harg2 arg3 harg3 arg4 harg4 arg5 harg5 arg6 harg6 arg7 harg7 arg8 harg8 _ _ hs
        (fun h => h16 (by rw [e1.mp h]; decide)) (fun h => h16 (e2.mp h)) (e4.mpr h16) (e5.mpr (by rw [h16'])) X5 X6 _ X7 Q⟩
    · have hleft : leftOut m c n X5 = outStep (fb m c n) (sb m c n) (gN m c) (cnt (sb m c n)) X5 := by
        unfold leftOut; rw [if_neg h16, if_neg h16']
      rw [hleft]
      exact ⟨_, _, _, hH', fun Q => body_next c i arg2 harg2 arg3 harg3 arg4 harg4 arg5 harg5 arg6 harg6 arg7 harg7 arg8 harg8 _ _ hs
        (fun h => h16 (by rw [e1.mp h]; decide)) (fun h => h16 (e2.mp h)) (e4.mpr h16) (fun h => by have := e5.mp h; omega) X5 X6 _ X7 Q⟩

end Point

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem Phi_cast (t : Fin cfg0.N) : (rdat m c).Φ t.castSucc = PhiN m c t.val := rfl
theorem Phi_succ (t : Fin cfg0.N) : (rdat m c).Φ t.succ = PhiN m c (t.val + 1) := rfl

/-- The body obligation: at every point, from any buffers the pipeline may hand over. -/
theorem body_obligation (hr : ∀ t, InRange (sb m c t)) : (rdat m c).BodyObligation (defs₀ (F := F)) Variants.none () Set.univ := by
  intro t Y hY
  have y0 := finds_0 m c t _ (hY 0)
  have y1 := finds_1 m c t _ (hY 1)
  have y2 := finds_2 m c t.val t.isLt _ (hY 2)
  rw [bigSep_W0, bigSep_W0, defs₀_row, Phi_cast, Phi_succ, y0, y1, y2]
  unfold bodyAt0
  rw [cc0__body_eq_skeleton]
  unfold PhiN RDat.owesAt Pipeline.owesWithin
  iintro ⟨⟨%a, %k, %g, %hH, H6, H7, H8, Hg⟩, ⟨%W, %hW, HO⟩, H2, H3, H4, H5⟩
  obtain ⟨Y6, Y7, Y8, hH', hbody⟩ := body_point m c (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (Memref.whole cc0_scratch0) (Memref.isWhole_whole _) (Memref.whole cc0_scratch1) (Memref.isWhole_whole _) (Memref.whole cc0_scratch2) (Memref.isWhole_whole _) t (hr t.val) (Y 3) a g k hH
  iapply hbody
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H2, H3, H4, H5, H6, H7, H8⟩
  isplitl [H6 H7 H8 Hg]
  · iexists Y6, Y7, Y8
    isplitr; · ipureintro; exact hH'
    isplitl [H6]; · iexact H6
    isplitl [H7]; · iexact H7
    isplitl [H8]; · iexact H8
    iexact Hg
  isplitl [HO]
  · iexists W; isplitr; · ipureintro; exact fun _ _ => Or.inl trivial
    iexact HO
  isplitl [H2]; · iexists _; isplitr; · ipureintro; exact rfl
                  iexact H2
  isplitl [H3]; · iexists _; isplitr; · ipureintro; exact rfl
                  iexact H3
  isplitl [H4]; · iexists _; isplitr; · ipureintro; exact rfl
                  iexact H4
  iexists _; isplitr; · ipureintro; exact rfl
  iexact H5

theorem share_full (w : Fin cfg0.W) : (rdat m c).share w = fullShare := by
  unfold RDat.share; split <;> rfl

/-! ## The launch -/

theorem Phi_in : Pipeline.ΦA spec0 c ⊢ (PhiN m c 0 : sProp 𝕄) := by
  unfold Pipeline.ΦA PhiN
  rw [scopedRest0_eq]
  iintro ⟨⟨⟨%a, H6⟩, ⟨%k, H7⟩, ⟨%g, H8⟩⟩, Hg⟩
  iexists a, k, g
  isplitr; · ipureintro; exact ⟨fun h => absurd h (by decide), fun h => absurd h (by decide)⟩
  isplitl [H6]; · iapply (Entails.of_eq (owns_whole (c : Thread nD τ) cc0_scratch0 fullShare a).symm); iexact H6
  isplitl [H7]; · iapply (Entails.of_eq (owns_whole (c : Thread nD τ) cc0_scratch1 fullShare k).symm); iexact H7
  isplitl [H8]; · iapply (Entails.of_eq (owns_whole (c : Thread nD τ) cc0_scratch2 fullShare g).symm); iexact H8
  iexact Hg

theorem Phi_out (n : ℕ) : (PhiN m c n : sProp 𝕄) ⊢ Pipeline.ΦA spec0 c := by
  unfold Pipeline.ΦA PhiN
  rw [scopedRest0_eq]
  iintro ⟨%a, %k, %g, %hH, H6, H7, H8, Hg⟩
  isplitl [H6 H7 H8]
  · isplitl [H6]; · iexists a; iapply (Entails.of_eq (owns_whole (c : Thread nD τ) cc0_scratch0 fullShare a)); iexact H6
    isplitl [H7]; · iexists k; iapply (Entails.of_eq (owns_whole (c : Thread nD τ) cc0_scratch1 fullShare k)); iexact H7
    iexists g; iapply (Entails.of_eq (owns_whole (c : Thread nD τ) cc0_scratch2 fullShare g)); iexact H8
  iexact Hg

-- the launch theorem's implicit arguments are found by unifying its conclusion with this statement
set_option backward.isDefEq.respectTransparency.types false in
/-- At the compiled mesh, at any value instance `F`, from any memory with zero counters whose segment ids are in range:
    every weakly fair execution of @main on the TensorCores terminates, each window's array holding what the data says. -/
theorem run_main (hr : ∀ c t, InRange (sb m c t)) :
    θ_run defs (onTc (τ := τ) (main (F := F))) (s₀ m ρ)
      (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => body_obligation m c (hr c)) (hshare := share_full m)
    (howed := fun _ _ => rfl) (V := V m) (hmain := hmain m Variants.none) (hA := A_eq m)
    (hin := Phi_in m) (hout := fun c => Phi_out m c _)

/-! ## What the run leaves -/

/-- The result's array holds the second phase's sums. -/
theorem final_out {r : PUnit × MemSt nD τ sig (Elt F)} (h : Pipeline.RDat.FramePost (cfgs 0) (rdat m) (V m) r) :
    r.2.mem ((c : Thread nD τ).loc main_v1) = outN m c 16 := by
  obtain ⟨G₀, hG⟩ := arrAt_3 m c _ ((h c).1 3)
  have hz : (fun a => win0_3.index (pt 31) a * main_v1.ty.shape.size a) = fun _ => 0 := funext fun a => by fin_cases a <;> decide
  have h1 : ((cfg0.win 3).blk (pt 31)).view.read (Elt F) (r.2.mem ((c : Thread nD τ).loc main_v1)) = r.2.mem ((c : Thread nD τ).loc main_v1) :=
    Memref.read_access_unit_zero (Elt F) main_v1 hz (fun a => by rw [congrFun hz a]; simp) _
  have h2 := congrArg (((cfg0.win 3).blk (pt 31)).view.read (Elt F)) hG
  rw [View.read_write_univ] at h2
  exact h1.symm.trans h2

/-- The kernel's run, read at its arguments and its result. -/
theorem run_result (hr : ∀ c t, InRange (sb m c t)) :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v1) = outN m c 16) ∧ r.2.sem = fun _ => 0) :=
  (θ_run defs _ _).mono (fun _ h => ⟨fun c =>
      ⟨(Pipeline.RDat.FramePost.arr_in h.1 c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 2 rfl).trans (V_main_arg3 m c),
      final_out m c h.1⟩, h.2⟩) (run_main m ρ hr)

end Cert.KernelIdeal.Hand

end
-- ==== Proof.Range.lean ====
/-
  Hand-written, untrusted. What the precondition says of a segment id: as an unsigned number it is below 16.
-/
module

public import proofs.«01_k».proof.Proof.Gen.Pre_in_range
public import Idealize.ShloMosaic.Lib.ReduceAll
public import Idealize.ShloMosaic.Lib.WordCmp
public import Idealize.ShloMosaic.Lib.ValueIdx

@[expose] public section

noncomputable section

namespace Cert.Range

open Idealize.ShloMosaic Cert.Pre_in_range

variable {F : FTy → Type} [FloatOps F] [Facts]

/-- The precondition at one row. -/
theorem id_lt {a0 : FVec F S16384x512 .f32} {a1 : FVec F S16x16 .f32} {a2 : IVec S16384 32} {a3 : FVec F S512x512 .f32}
    (h : fn (F := F) a0 a1 a2 a3 = fun _ => 1#1) (i : S16384.Idx) : (a2 i).toNat < 16 := by
  have h0 := congrFun h (fun a => a.elim0)
  unfold fn at h0
  haveI : Subsingleton S_.Idx := ⟨fun a b => funext fun z => z.elim0⟩
  have h1 := Host.reduce_andi_all _ _ _ _ _ h0 i
  have h2 : IntOp.andi (IntOp.cmpi .sge (a2 i) 0#32) (IntOp.cmpi .slt (a2 i) 16#32) = 1#1 := h1
  obtain ⟨h3, h4⟩ := IntOp.andi_eq_one.1 h2
  have h5 := IntOp.cmpi_sge.1 h3
  have h6 := IntOp.cmpi_slt.1 h4
  have e0 : (0#32 : BitVec 32).toInt = 0 := by decide
  have e16 : (16#32 : BitVec 32).toInt = 16 := by decide
  rw [e0] at h5
  rw [e16] at h6
  rw [BitVec.toInt_eq_toNat_cond] at h5 h6
  have := (a2 i).isLt
  split at h5 <;> omega

end Cert.Range

end
-- ==== Proof.Inputs.lean ====
/-
  Hand-written, untrusted. What the pipeline's blocks hold of the arguments: block `n % 16` of the features, of the
  segment ids (which the program reshapes to a column first), and the whole weight matrix.
-/
module

public import proofs.«01_k».proof.Proof.Data
public import proofs.«01_k».proof.Proof.Range
public import Idealize.ShloMosaic.Lib.Claim
public import Idealize.ShloMosaic.Lib.ValueIdx
public import Idealize.ShloMosaic.Lib.Pipeline.ValueKit

@[expose] public section

set_option maxRecDepth 16384

noncomputable section

namespace Cert.KernelIdeal.Hand

open Cert.KernelIdeal Cert.KernelIdeal.Gen Cert.Words
open Idealize.ShloMosaic Idealize.ShloMosaic.TcCoe Idealize.ShloMosaic.Tactic

variable {F : FTy → Type} [FloatOps F] [∀ e, Nonempty (Elt F e)]

variable (m : (ℓ : Loc nD τ sig) → Buf (Elt F) ℓ) (c : Dev nD)

/-- The features, as launched. -/
def feats : Vec F S16384x512 .f32 := m ((c.tc : Thread nD τ).loc main_arg0)
/-- The segment ids, as launched. -/
def ids : Vec F S16384 .i32 := m ((c.tc : Thread nD τ).loc main_arg2)
/-- The weights, as launched. -/
def wts : Vec F S512x512 .f32 := m ((c.tc : Thread nD τ).loc main_arg3)

theorem index_0 : ∀ t : Fin cfg0.N, win0_0.index t 0 = t.val % 16 ∧ win0_0.index t 1 = 0 :=
  (by decide +kernel : ∀ t : Fin grid0.N, win0_0.index t 0 = t.val % 16 ∧ win0_0.index t 1 = 0)
theorem index_1 : ∀ t : Fin cfg0.N, win0_1.index t 0 = t.val % 16 ∧ win0_1.index t 1 = 0 :=
  (by decide +kernel : ∀ t : Fin grid0.N, win0_1.index t 0 = t.val % 16 ∧ win0_1.index t 1 = 0)
theorem index_2 : ∀ t : Fin cfg0.N, win0_2.index t 0 = 0 ∧ win0_2.index t 1 = 0 :=
  (by decide +kernel : ∀ t : Fin grid0.N, win0_2.index t 0 = 0 ∧ win0_2.index t 1 = 0)

/-- Row `r` of block `n`, as a row of the array. -/
def rowAt (n : ℕ) (r : Fin 1024) : Fin 16384 := ⟨n % 16 * 1024 + r.val, by have := Nat.mod_lt n (show 16 > 0 by decide); omega⟩

theorem fb_apply (n : ℕ) (r : Fin 1024) (j : Fin 512) : fb m c n (ValueIdx.ix2 r j) = feats m c (ValueIdx.ix2 (rowAt n r) j) := by
  obtain ⟨e0, e1⟩ := index_0 (pt n)
  show V m c main_arg0 (((cfg0.win 0).blk (pt n)).view.emb (ValueIdx.ix2 r j)) = _
  rw [V_main_arg0]
  show m ((c : Thread nD τ).loc main_arg0) _ = m ((c : Thread nD τ).loc main_arg0) _
  congr 1
  have hn : (pt n).val % 16 = n % 16 := by show n % 32 % 16 = n % 16; omega
  funext a; apply Fin.ext
  match a with
  | ⟨0, _⟩ => show win0_0.index (pt n) (0 : Fin 2) * 1024 + 1 * r.val = n % 16 * 1024 + r.val; rw [e0, hn]; omega
  | ⟨1, _⟩ => show win0_0.index (pt n) (1 : Fin 2) * 512 + 1 * j.val = j.val; rw [e1]; omega

/-- The reshaped ids: a column. -/
theorem V_ids (i : S16384x1.Idx) : V m c main_v0 i = ids m c (ValueIdx.ix1 (i 0)) := by
  unfold ids
  entry_read
  pointwise
  rfl

theorem emb_1 (n : ℕ) (y : S1024x1.Idx) : (((cfg0.win 1).blk (pt n)).view.emb y : S16384x1.Idx) = ValueIdx.ix2 (rowAt n (y 0)) 0 := by
  obtain ⟨e0, e1⟩ := index_1 (pt n)
  have hn : (pt n).val % 16 = n % 16 := by show n % 32 % 16 = n % 16; omega
  have hy : (y 1).val < 1 := (y 1).isLt
  funext a; apply Fin.ext
  match a with
  | ⟨0, _⟩ => show win0_1.index (pt n) (0 : Fin 2) * 1024 + 1 * (y 0).val = n % 16 * 1024 + (y 0).val; rw [e0, hn]; omega
  | ⟨1, _⟩ => show win0_1.index (pt n) (1 : Fin 2) * 1 + 1 * (y 1).val = 0; rw [e1]; omega

theorem sb_apply (n : ℕ) (y : S1024x1.Idx) : sb m c n y = ids m c (ValueIdx.ix1 (rowAt n (y 0))) :=
  (congrArg (V m c main_v0) (emb_1 n y)).trans (V_ids m c _)

theorem wb_eq : wb m c = wts m c := by
  funext z
  obtain ⟨e0, e1⟩ := index_2 (pt 0)
  show V m c main_arg3 (((cfg0.win 2).blk (pt 0)).view.emb z) = _
  rw [V_main_arg3]
  show m ((c : Thread nD τ).loc main_arg3) _ = m ((c : Thread nD τ).loc main_arg3) _
  congr 1
  funext a; apply Fin.ext
  match a with
  | ⟨0, _⟩ => show win0_2.index (pt 0) (0 : Fin 2) * 512 + 1 * (z 0).val = (z 0).val; rw [e0]; omega
  | ⟨1, _⟩ => show win0_2.index (pt 0) (1 : Fin 2) * 512 + 1 * (z 1).val = (z 1).val; rw [e1]; omega

/-- Every block's ids are in range when the array's are. -/
theorem inRange_of (h : ∀ i, (ids m c i : BitVec 32).toNat < 16) (n : ℕ) : InRange (sb m c n) := by
  intro y
  rw [sb_apply]
  exact h _

end Cert.KernelIdeal.Hand

end
-- ==== Proof.Frames.lean ====
/-
  Hand-written, untrusted. The runs without their values: the kernel at machine floats, the kernel at ideal floats and the
  reference each terminate with their arguments unchanged and every semaphore at zero.
-/
module

public import proofs.«01_k».proof.Defs
public import proofs.«01_k».proof.Proof.Run
public import proofs.«01_k».proof.Proof.Inputs
public import proofs.«01_k».proof.Proof.K.Run
public import proofs.«01_k».proof.Proof.K.Inputs
public import proofs.«01_k».proof.Proof.Gen.ReferenceIdeal.Run
public import proofs.«01_k».proof.Proof.Gen.Pre_in_range

@[expose] public section

noncomputable section

namespace Cert.Proof

open Idealize.ShloMosaic Idealize.SL.Sem

theorem range_kernel {m} (h : Cert.Pre_Kernel (hPre_in_range := Cert.Pre_in_range.Gen.facts) m) (c n) : Cert.Kernel.Hand.InRange (Cert.Kernel.Hand.sb m c n) :=
  Cert.Kernel.Hand.inRange_of m c (fun i => Cert.Range.id_lt (h c) i) n

theorem range_kernelIdeal {m} (h : Cert.Pre_KernelIdeal (hPre_in_range := Cert.Pre_in_range.Gen.facts) m) (c n) : Cert.KernelIdeal.Hand.InRange (Cert.KernelIdeal.Hand.sb m c n) :=
  Cert.KernelIdeal.Hand.inRange_of m c (fun i => Cert.Range.id_lt (h c) i) n

theorem frame_kernel : Cert.quiescent_Kernel (hKernel := Cert.Kernel.Gen.facts) (hPre_in_range := Cert.Pre_in_range.Gen.facts) := fun m g hpre =>
  (θ_run Cert.Kernel.defs _ _).mono (fun _ h => ⟨fun c => ⟨(h.1 c).1, (h.1 c).2.1, (h.1 c).2.2.1, (h.1 c).2.2.2.1⟩, h.2⟩)
    (Cert.Kernel.Hand.run_result (F := Bits) m g (range_kernel hpre))

theorem frame_kernelIdeal : Cert.quiescent_KernelIdeal (hKernelIdeal := Cert.KernelIdeal.Gen.facts) (hPre_in_range := Cert.Pre_in_range.Gen.facts) := fun m g hpre =>
  (θ_run Cert.KernelIdeal.defs _ _).mono (fun _ h => ⟨fun c => ⟨(h.1 c).1, (h.1 c).2.1, (h.1 c).2.2.1, (h.1 c).2.2.2.1⟩, h.2⟩)
    (Cert.KernelIdeal.Hand.run_result (F := Ideal) m g (range_kernelIdeal hpre))

theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_pre : Cert.quiescent_ReferenceIdeal_pre_in_range (hReferenceIdeal := Cert.ReferenceIdeal.Gen.facts) (hPre_in_range := Cert.Pre_in_range.Gen.facts) :=
  fun m g _ => frame_reference m g trivial

end Cert.Proof

end
-- ==== Proof.Rows.lean ====
/-
  Hand-written, untrusted. What one trip of a loop over a block stores, at extended reals, read at an element.
-/
module

public import proofs.«01_k».proof.Proof.Blocks
public import Idealize.ShloMosaic.Lib.IdealHost
public import Idealize.ShloMosaic.Lib.Claim
public import Idealize.ShloMosaic.Lib.Pipeline.ValueKit

@[expose] public section

set_option maxRecDepth 16384

noncomputable section

namespace Cert.KernelIdeal.Hand

open Cert.KernelIdeal Cert.KernelIdeal.Gen Cert.Words
open Idealize.ShloMosaic Idealize.ShloMosaic.TcCoe Idealize.ShloMosaic.Tactic

variable (f : Vec Ideal S1024x512 .f32) (s : Vec Ideal S1024x1 .i32) (b : Fin 16)

theorem sumRow_at (x : Vec Ideal S1x512 .f32) (j : Fin 512) :
    sumRow f s b x (ValueIdx.ix2 0 j) = x (ValueIdx.ix2 0 j) + ∑ r : Fin 1024, f (ValueIdx.ix2 r j) * maskOf (F := Ideal) s (BitVec.ofNat 32 b.val) (ValueIdx.ix2 r 0) := by
  show sumRow f s b x (ix2 0 j) = _
  unfold sumRow
  generalize maskOf s (BitVec.ofNat 32 b.val) = M
  pointwise
  rfl

theorem cntRow_at (x : Vec Ideal S1x128 .f32) (l : Fin 128) :
    cntRow s b x (ValueIdx.ix2 0 l) = x (ValueIdx.ix2 0 l) + ∑ r : Fin 1024, maskOf (F := Ideal) s (BitVec.ofNat 32 b.val) (ValueIdx.ix2 r 0) := by
  show cntRow s b x (ix2 0 l) = _
  unfold cntRow
  generalize maskOf s (BitVec.ofNat 32 b.val) = M
  pointwise
  simp only [Finset.univ_unique, Finset.sum_singleton]
  rfl

theorem outRow_at (g x : Vec Ideal S1x512 .f32) (j : Fin 512) :
    outRow f s b g x (ValueIdx.ix2 0 j) = x (ValueIdx.ix2 0 j) + ∑ r : Fin 1024, f (ValueIdx.ix2 r j) *
      (max (∑ k : Fin 512, f (ValueIdx.ix2 r k) * g (ValueIdx.ix2 0 k)) 0 * maskOf (F := Ideal) s (BitVec.ofNat 32 b.val) (ValueIdx.ix2 r 0)) := by
  show outRow f s b g x (ix2 0 j) = _
  unfold outRow
  generalize maskOf s (BitVec.ofNat 32 b.val) = M
  pointwise
  rfl

theorem maskOf_at (r : Fin 1024) :
    maskOf (F := Ideal) s (BitVec.ofNat 32 b.val) (ValueIdx.ix2 r 0) = if (s (ValueIdx.ix2 r 0) : BitVec 32).toNat = b.val then 1 else 0 := by
  show maskOf (F := Ideal) s (BitVec.ofNat 32 b.val) (ix2 r 0) = _
  unfold maskOf k0_pay1
  pointwise
  show FloatOps.sitofp FTy.f32 (BitVec.setWidth 32 (IntOp.cmpi CmpIPredicate.eq (s (ValueIdx.ix2 r 0)) (BitVec.ofNat 32 b.val))) = _
  generalize (s (ValueIdx.ix2 r 0) : BitVec 32) = w
  have hb := b.isLt
  by_cases h : w.toNat = b.val
  · have hw : w = BitVec.ofNat 32 b.val := by
      apply BitVec.eq_of_toNat_eq
      rw [BitVec.toNat_ofNat, h]; omega
    rw [if_pos h, IntOp.cmpi_eq.2 hw]
    show (((BitVec.setWidth 32 1#1).toInt : ℝ) : EReal) = 1
    rw [show (BitVec.setWidth 32 1#1).toInt = 1 from by decide]
    simp
  · have hw : ¬ w = BitVec.ofNat 32 b.val := fun e => h (by rw [e, BitVec.toNat_ofNat]; omega)
    have h0 : IntOp.cmpi .eq w (BitVec.ofNat 32 b.val) = 0#1 :=
      (BitVec.eq_zero_or_eq_one _).resolve_right fun e => hw (IntOp.cmpi_eq.1 e)
    rw [if_neg h, h0]
    show (((BitVec.setWidth 32 0#1).toInt : ℝ) : EReal) = 0
    rw [show (BitVec.setWidth 32 0#1).toInt = 0 from by decide]
    simp

end Cert.KernelIdeal.Hand

end
-- ==== Proof.Spec.lean ====
/-
  Hand-written, untrusted. The mathematics both programs compute, over extended reals: rows summed by segment, the
  segments' means through a linear map to a global context, each row's gate against its segment's context, and the gated
  rows summed by segment.
-/
module

public import Idealize.ShloMosaic.PureOps.Ideal.Laws

@[expose] public section

noncomputable section

namespace Cert.Spec

open Idealize.ShloMosaic

variable (I : Fin 16384 → ℕ)

/-- The sum of the rows' terms over the rows of segment `b`. -/
def segSum (f : Fin 16384 → EReal) (b : Fin 16) : EReal := ∑ r, if I r = b.val then f r else 0

variable (X : Fin 16384 → Fin 512 → EReal) (W : Fin 512 → Fin 512 → EReal)

/-- Segment `b`'s mean feature; an empty segment's sum is divided by one. -/
def mean (b : Fin 16) (k : Fin 512) : EReal := Ideal.div (segSum I (fun r => X r k) b) (max (segSum I (fun _ => 1) b) 1)

/-- Segment `b`'s global context. -/
def ctx (b : Fin 16) (j : Fin 512) : EReal := max (∑ k, mean I X b k * W j k) 0

/-- Row `r`'s gate against a context. -/
def gate (g : Fin 512 → EReal) (r : Fin 16384) : EReal := max (∑ k, X r k * g k) 0

/-- The gated rows summed by segment. -/
def out (b : Fin 16) (j : Fin 512) : EReal := segSum I (fun r => X r j * gate X (ctx I X W b) r) b

end Cert.Spec

end
-- ==== Proof.Sums.lean ====
/-
  Hand-written, untrusted. What the arrays of the kernel hold at extended reals: after `n` blocks each element is a sum over
  the blocks and their rows, and after all sixteen it is a sum over all rows; so the result is the specification's.
-/
module

public import proofs.«01_k».proof.Proof.Rows
public import proofs.«01_k».proof.Proof.Inputs
public import proofs.«01_k».proof.Proof.Spec

@[expose] public section

set_option maxRecDepth 16384

noncomputable section

namespace Cert.KernelIdeal.Hand

open Cert.KernelIdeal Cert.KernelIdeal.Gen Cert.Words
open Idealize.ShloMosaic Idealize.ShloMosaic.TcCoe Idealize.ShloMosaic.Tactic

/-! ## One block -/

section Block

variable {s : Vec Ideal S1024x1 .i32} (hs : InRange s) (f : Vec Ideal S1024x512 .f32)
include hs

/-- Rows updated between the least and the greatest id are rows updated everywhere, when the update adds a sum over the
    block's rows of that segment: outside the range there is no such row. -/
theorem rowsUpd_at {n : ℕ} (X : (⟨2, ![16, n]⟩ : Shape).Idx → EReal)
    (g : Fin 16 → ((⟨2, ![1, n]⟩ : Shape).Idx → EReal) → ((⟨2, ![1, n]⟩ : Shape).Idx → EReal)) (b : Fin 16) (j : Fin n) (t : Fin 1024 → EReal)
    (hg : g b (rowOf X b) (ValueIdx.ix2 0 j) = X (ValueIdx.ix2 b j) + ∑ r, if (s (ValueIdx.ix2 r 0) : BitVec 32).toNat = b.val then t r else 0) :
    rowsUpd X (lo s).toNat (cnt s) g (ValueIdx.ix2 b j) = X (ValueIdx.ix2 b j) + ∑ r, if (s (ValueIdx.ix2 r 0) : BitVec 32).toNat = b.val then t r else 0 := by
  show (if (lo s).toNat ≤ b.val ∧ b.val < (lo s).toNat + cnt s then g b (rowOf X b) (ValueIdx.ix2 0 j) else X (ValueIdx.ix2 b j)) = _
  split
  · exact hg
  · rename_i h
    rw [Finset.sum_eq_zero, add_zero]
    intro r _
    rw [if_neg]
    intro e
    have h1 := (range_facts hs).2 (ValueIdx.ix2 r 0)
    have h2 := lo_le_hi hs
    apply h
    unfold cnt
    omega

theorem accStep_at (X : Vec Ideal S16x512 .f32) (b : Fin 16) (j : Fin 512) :
    accStep f s (cnt s) X (ValueIdx.ix2 b j) = X (ValueIdx.ix2 b j) + ∑ r : Fin 1024, if (s (ValueIdx.ix2 r 0) : BitVec 32).toNat = b.val then f (ValueIdx.ix2 r j) else 0 := by
  refine rowsUpd_at hs X (sumRow f s) b j _ ((sumRow_at f s b _ j).trans ?_)
  refine congrArg (X (ValueIdx.ix2 b j) + ·) (Finset.sum_congr rfl fun r _ => ?_)
  rw [maskOf_at, mul_ite, mul_one, mul_zero]

theorem cntStep_at (X : Vec Ideal S16x128 .f32) (b : Fin 16) (l : Fin 128) :
    cntStep (F := Ideal) s (cnt s) X (ValueIdx.ix2 b l) = X (ValueIdx.ix2 b l) + ∑ r : Fin 1024, if (s (ValueIdx.ix2 r 0) : BitVec 32).toNat = b.val then (1 : EReal) else 0 := by
  refine rowsUpd_at hs X (cntRow s) b l _ ((cntRow_at s b _ l).trans ?_)
  refine congrArg (X (ValueIdx.ix2 b l) + ·) (Finset.sum_congr rfl fun r _ => ?_)
  rw [maskOf_at]

theorem outStep_at (G X : Vec Ideal S16x512 .f32) (b : Fin 16) (j : Fin 512) :
    outStep f s G (cnt s) X (ValueIdx.ix2 b j) = X (ValueIdx.ix2 b j) + ∑ r : Fin 1024, if (s (ValueIdx.ix2 r 0) : BitVec 32).toNat = b.val then
      f (ValueIdx.ix2 r j) * max (∑ k : Fin 512, f (ValueIdx.ix2 r k) * G (ValueIdx.ix2 b k)) 0 else 0 := by
  refine rowsUpd_at hs X (fun b => outRow f s b (rowOf G b)) b j _ ((outRow_at f s b _ _ j).trans ?_)
  refine congrArg (X (ValueIdx.ix2 b j) + ·) (Finset.sum_congr rfl fun r _ => ?_)
  rw [maskOf_at, mul_ite, mul_one, mul_zero, mul_ite, mul_zero]
  rfl

end Block

/-! ## All blocks -/

/-- Sixteen blocks of 1024 rows are the 16384 rows. -/
theorem sum_blocks (g : Fin 16384 → EReal) : ∑ n ∈ Finset.range 16, ∑ r : Fin 1024, g (rowAt n r) = ∑ r, g r := by
  rw [Finset.sum_range, ← Fintype.sum_prod_type']
  refine Fintype.sum_equiv (finProdFinEquiv (m := 16) (n := 1024)) _ _ fun x => congrArg g (Fin.ext ?_)
  show x.1.val % 16 * 1024 + x.2.val = x.2.val + 1024 * x.1.val
  have := x.1.isLt
  omega

theorem rowAt_add (n : ℕ) (r : Fin 1024) : rowAt (16 + n) r = rowAt n r := by
  unfold rowAt
  apply Fin.ext
  show (16 + n) % 16 * 1024 + r.val = n % 16 * 1024 + r.val
  rw [Nat.add_mod_left]

variable (m : (ℓ : Loc nD τ sig) → Buf (Elt Ideal) ℓ) (c : Dev nD)

/-- The segment of a row. -/
def segOf (r : Fin 16384) : ℕ := (ids m c (ValueIdx.ix1 r) : BitVec 32).toNat
/-- A row's features. -/
def featAt (r : Fin 16384) (j : Fin 512) : EReal := feats m c (ValueIdx.ix2 r j)
/-- The weights. -/
def wtAt (j k : Fin 512) : EReal := wts m c (ValueIdx.ix2 j k)

variable (h : ∀ i, (ids m c i : BitVec 32).toNat < 16)
include h

theorem accN_at (n : ℕ) (b : Fin 16) (j : Fin 512) :
    accN m c n (ValueIdx.ix2 b j) = ∑ q ∈ Finset.range n, ∑ r : Fin 1024, if segOf m c (rowAt q r) = b.val then featAt m c (rowAt q r) j else 0 := by
  induction n with
  | zero => exact Ideal.ofBits_zero_f32
  | succ n ih =>
    rw [Finset.sum_range_succ, ← ih]
    refine (accStep_at (inRange_of m c h n) _ _ b j).trans ?_
    refine congrArg (accN m c n (ValueIdx.ix2 b j) + ·) (Finset.sum_congr rfl fun r _ => ?_)
    rw [sb_apply, fb_apply]
    rfl

theorem cntN_at (n : ℕ) (b : Fin 16) (l : Fin 128) :
    cntN m c n (ValueIdx.ix2 b l) = ∑ q ∈ Finset.range n, ∑ r : Fin 1024, if segOf m c (rowAt q r) = b.val then (1 : EReal) else 0 := by
  induction n with
  | zero => exact Ideal.ofBits_zero_f32
  | succ n ih =>
    rw [Finset.sum_range_succ, ← ih]
    refine (cntStep_at (inRange_of m c h n) _ b l).trans ?_
    refine congrArg (cntN m c n (ValueIdx.ix2 b l) + ·) (Finset.sum_congr rfl fun r _ => ?_)
    rw [sb_apply]
    rfl

theorem gN_at (b : Fin 16) (j : Fin 512) : gN m c (ValueIdx.ix2 b j) = Spec.ctx (segOf m c) (featAt m c) (wtAt m c) b j := by
  have hacc : ∀ k, accN m c 16 (ValueIdx.ix2 b k) = Spec.segSum (segOf m c) (fun r => featAt m c r k) b := fun k =>
    (accN_at m c h 16 b k).trans (sum_blocks fun r => if segOf m c r = b.val then featAt m c r k else 0)
  have hcnt : cntN m c 16 (ValueIdx.ix2 b 0) = Spec.segSum (segOf m c) (fun _ => 1) b :=
    (cntN_at m c h 16 b 0).trans (sum_blocks fun r => if segOf m c r = b.val then 1 else 0)
  have hwin : (VecWindow.window (s := S16x128) (cntN m c 16) ![0, 0] S16x1.size inb_S16x128_S16x1_0_0) (ix2 b 0) = cntN m c 16 (ValueIdx.ix2 b 0) := by
    refine congrArg (cntN m c 16) (funext fun a => Fin.ext ?_)
    match a with
    | ⟨0, _⟩ => show 0 + 1 * b.val = b.val; omega
    | ⟨1, _⟩ => rfl
  show gN m c (ix2 b j) = _
  unfold gN gctx
  generalize hC : VecWindow.window (s := S16x128) (cntN m c 16) ![0, 0] S16x1.size inb_S16x128_S16x1_0_0 = C at hwin
  rw [wb_eq]
  unfold k0_pay12
  pointwise
  rw [hwin, hcnt]
  refine congrArg (max · 0) (Finset.sum_congr rfl fun k _ => ?_)
  rw [show accN m c 16 (ix2 b k) = _ from hacc k]
  rfl

theorem outN_at (n : ℕ) (b : Fin 16) (j : Fin 512) :
    outN m c n (ValueIdx.ix2 b j) = ∑ q ∈ Finset.range n, ∑ r : Fin 1024, if segOf m c (rowAt q r) = b.val then
      featAt m c (rowAt q r) j * Spec.gate (featAt m c) (Spec.ctx (segOf m c) (featAt m c) (wtAt m c) b) (rowAt q r) else 0 := by
  induction n with
  | zero => exact Ideal.ofBits_zero_f32
  | succ n ih =>
    rw [Finset.sum_range_succ, ← ih]
    refine (outStep_at (inRange_of m c h (16 + n)) _ _ _ b j).trans ?_
    refine congrArg (outN m c n (ValueIdx.ix2 b j) + ·) (Finset.sum_congr rfl fun r _ => ?_)
    rw [sb_apply, fb_apply]
    simp only [fb_apply, gN_at m c h, rowAt_add]
    rfl

/-- The kernel's result is the specification's. -/
theorem out_at (b : Fin 16) (j : Fin 512) : outN m c 16 (ValueIdx.ix2 b j) = Spec.out (segOf m c) (featAt m c) (wtAt m c) b j :=
  (outN_at m c h 16 b j).trans (sum_blocks fun r => if segOf m c r = b.val then
      featAt m c r j * Spec.gate (featAt m c) (Spec.ctx (segOf m c) (featAt m c) (wtAt m c) b) r else 0)

end Cert.KernelIdeal.Hand

end
-- ==== Proof.Landing.lean ====
/-
  Hand-written, untrusted. Where the updates of a scatter by one index word land: update row `r` of a matrix at the operand
  row that the word names, update `r` of a vector at the element it names. So an adding scatter of floats is a sum over the
  rows by name, and an adding scatter of ones counts them.
-/
module

public import Idealize.ShloMosaic.Lib.Routing.OpsPair
public import Idealize.ShloMosaic.Lib.Routing.Ops
public import Idealize.ShloMosaic.Lib.ValueIdx
public import Idealize.ShloMosaic.Lib.ValueIdxRank1
public import Idealize.ShloMosaic.PureOps.Ideal.Laws

@[expose] public section

noncomputable section

namespace Cert.Landing

open Idealize.ShloMosaic Idealize.ShloMosaic.Routing Idealize.ShloMosaic.ValueIdx

/-! ## Rows of a matrix -/

section Rows

variable {A C N : ℕ} (d : ScatterDims (shape2 A C) (shape2 N 1) (shape2 N C)) (huw : d.updateWindowDims = [1])
  (hiw : d.insertedWindowDims = [0]) (hsd : d.scatterDimsToOperandDims = [0]) (hivd : d.indexVectorDim = 1)
  (idx : IVec (shape2 N 1) 32)
include huw hiw hsd hivd

/-- Entry `(r, k)` of the updates lands at `(b, j)` exactly when word `r`, read signed, is `b`, and `k` is `j`. -/
theorem lands_rows (r : Fin N) (k j : Fin C) (b : Fin A) :
    d.resultIdx? (ix2 r k) idx = some (ix2 b j) ↔ (idx (ix2 r (0 : Fin 1))).toInt = (b.val : ℤ) ∧ k = j := by
  have hm : (0 : Fin 2) ∈ d.scatterDimsToOperandDims := by rw [hsd]; exact List.mem_singleton.2 rfl
  have hkept : d.sKept = [1] := by
    show (shape2 A C).kept d.insertedWindowDims = _
    rw [hiw]
    rfl
  have hus : d.uScatter = [0] := by
    show (shape2 N C).kept d.updateWindowDims = _
    rw [huw]
    rfl
  have hwin0 : d.window (ix2 r k) 0 = 0 := by
    unfold ScatterDims.window
    rw [dif_neg (by rw [hkept]; simp)]
  have hwin1 : d.window (ix2 r k) 1 = k.val := by
    unfold ScatterDims.window
    rw [dif_pos (by rw [hkept]; exact List.mem_singleton.2 rfl)]
    have q : ∀ X : Fin 2, X = 1 → (ix2 r k X).val = k.val := fun X e => by subst e; rfl
    refine q _ ?_
    simp [huw]
  have hstart1 : d.start (ix2 r k) idx 1 = 0 := by
    unfold ScatterDims.start
    rw [dif_neg (by rw [hsd]; simp)]
  have hstart0 : d.start (ix2 r k) idx 0 = (idx (ix2 r (0 : Fin 1))).toInt := by
    unfold ScatterDims.start
    rw [dif_pos hm]
    refine congrArg (fun i => (idx i).toInt) (funext fun q => Fin.ext ?_)
    match q with
    | ⟨0, _⟩ =>
      unfold ScatterDims.siIdx
      rw [dif_neg (by rw [hivd]; exact Nat.zero_ne_one)]
      unfold ScatterDims.siCoord
      simp only [Fin.val_cast]
      have e : ∀ X : Fin 2, X = 0 → (ix2 r k X).val = r.val := fun X e => by subst e; rfl
      refine e _ (List.mem_singleton.1 ?_)
      rw [← hus]
      exact List.getElem_mem _
    | ⟨1, _⟩ =>
      exact congrArg Fin.val (Subsingleton.elim (α := Fin 1) _ _)
  rw [resultIdx?_ix2, hstart0, hwin0, hstart1, hwin1, Fin.ext_iff]
  omega

/-- The adding scatter of the rows of a matrix, read at an entry: the operand's entry and the sum, over the rows whose word
    names its row, of their entries in its column. -/
theorem scatterAdd_rows (x : (shape2 A C).Idx → EReal) (u : (shape2 N C).Idx → EReal) (b : Fin A) (j : Fin C) :
    Ideal.hostScatterAdd d x idx u (ix2 b j)
      = x (ix2 b j) + ∑ r : Fin N, if (idx (ix2 r (0 : Fin 1))).toInt = (b.val : ℤ) then u (ix2 r j) else 0 := by
  unfold Ideal.hostScatterAdd
  rw [Finset.sum_filter, sum_idx2]
  refine congrArg (x (ix2 b j) + ·) (Finset.sum_congr rfl fun r _ => ?_)
  simp only [lands_rows d huw hiw hsd hivd idx]
  by_cases e : (idx (ix2 r (0 : Fin 1))).toInt = (b.val : ℤ)
  · simp [e]
  · simp [e]

end Rows

/-! ## Elements of a vector -/

section Vector

variable {A N : ℕ} (d : ScatterDims (shape1 A) (shape2 N 1) (shape1 N)) (hiw : d.insertedWindowDims = [0])
  (hsd : d.scatterDimsToOperandDims = [0]) (hivd : d.indexVectorDim = 1) (idx : IVec (shape2 N 1) 32)
include hiw hsd hivd

/-- Update `r` lands at `b` exactly when word `r`, read signed, is `b`. -/
theorem lands_vector (r : Fin N) (b : Fin A) :
    d.resultIdx? (ix1 r) idx = some (ix1 b) ↔ (idx (ix2 r (0 : Fin 1))).toInt = (b.val : ℤ) := by
  have hm : (0 : Fin 1) ∈ d.scatterDimsToOperandDims := by rw [hsd]; exact List.mem_singleton.2 rfl
  have hwin : d.window (ix1 r) 0 = 0 := by
    unfold ScatterDims.window
    rw [dif_neg fun h => (of_decide_eq_true (List.mem_filter.1 h).2) (by rw [hiw]; exact List.mem_singleton.2 rfl)]
  have hstart : d.start (ix1 r) idx 0 = (idx (ix2 r (0 : Fin 1))).toInt := by
    unfold ScatterDims.start
    rw [dif_pos hm]
    refine congrArg (fun i => (idx i).toInt) (funext fun q => Fin.ext ?_)
    match q with
    | ⟨0, _⟩ =>
      unfold ScatterDims.siIdx
      rw [dif_neg (by rw [hivd]; exact Nat.zero_ne_one)]
      unfold ScatterDims.siCoord
      simp only [Fin.val_cast]
      have e : ∀ X : Fin 1, (ix1 r X).val = r.val := fun X => by
        obtain rfl : X = 0 := Subsingleton.elim _ _
        rfl
      exact e _
    | ⟨1, _⟩ =>
      exact congrArg Fin.val (Subsingleton.elim (α := Fin 1) _ _)
  rw [resultIdx?_ix1, hstart, hwin]
  omega

omit hiw hsd hivd in
/-- Adding one for each position that has a property adds their number. -/
theorem foldl_ones {α : Type} (P : α → Prop) [DecidablePred P] (l : List α) (k : ℕ) :
    l.foldl (fun a n => if P n then IntOp.addi a 1#32 else a) (BitVec.ofNat 32 k)
      = BitVec.ofNat 32 (k + (l.map fun n => if P n then 1 else 0).sum) := by
  induction l generalizing k with
  | nil => simp
  | cons n l ih =>
    rw [List.foldl_cons, List.map_cons, List.sum_cons]
    by_cases h : P n
    · rw [if_pos h, if_pos h, show IntOp.addi (BitVec.ofNat 32 k) 1#32 = BitVec.ofNat 32 (k + 1) from (BitVec.ofNat_add ..).symm, ih]
      congr 1; omega
    · rw [if_neg h, if_neg h, ih]
      congr 1; omega

/-- The adding scatter of ones into zeros counts: element `b` is the number of words that are `b`. -/
theorem scatter_ones (x : IVec (shape1 A) 32) (hx : ∀ i, x i = 0#32) (u : IVec (shape1 N) 32) (hu : ∀ i, u i = 1#32) (b : Fin A) :
    Host.scatter d IntOp.addi x idx u (ix1 b)
      = BitVec.ofNat 32 (∑ r : Fin N, if (idx (ix2 r (0 : Fin 1))).toInt = (b.val : ℤ) then 1 else 0) := by
  rw [scatter_at]
  simp only [hu, hx]
  refine (foldl_ones (fun n => d.resultIdx? ((shape1 N).rowMajor.symm n) idx = some (ix1 b)) _ 0).trans (congrArg (BitVec.ofNat 32) ?_)
  rw [Nat.zero_add, ← Fin.sum_univ_def]
  refine Fintype.sum_equiv (finCongr (numel1 N)) _ _ fun n => ?_
  rw [symm1]
  exact if_congr (lands_vector d hiw hsd hivd idx _ b) rfl rfl

end Vector

/-- A word below 2³¹ read signed is the number it is read unsigned. -/
theorem toInt_eq_iff (w : BitVec 32) (h : w.toNat < 16) (n : ℕ) : w.toInt = (n : ℤ) ↔ w.toNat = n := by
  rw [BitVec.toInt_eq_toNat_of_lt (by omega)]
  omega

/-- A count of rows as a word, converted to a real, is the sum of a one for each row. -/
theorem count_real {N : ℕ} (hN : N < 2 ^ 31) (P : Fin N → Prop) [DecidablePred P] :
    (((BitVec.ofNat 32 (∑ r : Fin N, if P r then 1 else 0)).toInt : ℝ) : EReal) = ∑ r : Fin N, if P r then (1 : EReal) else 0 := by
  have hle : (∑ r : Fin N, if P r then 1 else 0) ≤ N := by
    refine (Finset.sum_le_card_nsmul _ _ 1 fun r _ => ?_).trans (by simp)
    split <;> omega
  rw [StableHlo.Predicate.toInt_ofNat_small _ (by omega)]
  rw [Int.cast_natCast, EReal.coe_natCast, Nat.cast_sum]
  refine Finset.sum_congr rfl fun r _ => ?_
  split <;> simp

end Cert.Landing

end
-- ==== Proof.RefValue.lean ====
/-
  Hand-written, untrusted. What the reference computes at extended reals, its ids in range: its operations in four stages
  (the sums by segment, the counts, the contexts, the gated rows), each read at an index, and together the specification.
-/
module

public import proofs.«01_k».proof.Proof.Gen.ReferenceIdeal
public import proofs.«01_k».proof.Proof.Landing
public import proofs.«01_k».proof.Proof.Spec
public import Idealize.ShloMosaic.Lib.Pipeline.ValueKit
public import Idealize.ShloMosaic.Lib.IdealHost
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe

/-! ## The stages -/

/-- Words as a column. -/
def col (s : IVec S16384 32) : IVec S16384x1 32 := broadcastInDim S16384x1 ![0] bcast_S16384_S16384x1_0 s

/-- A number everywhere in a vector of words. -/
def words (n : BitVec 32) : IVec S16384 32 := broadcastInDim S16384 ![] bcast_S_S16384 (constantI S_ 32 n)

/-- A negative index counts from the end. -/
def wrap (s : IVec S16384 32) : IVec S16384 32 := select (cmpi .slt s (words 0#32)) (addi s (words 16#32)) s

/-- The ids from zero up. -/
def clip (s : IVec S16384 32) : IVec S16384 32 := maxsi (broadcastInDim S16384 ![] bcast_S_S16384 (id (constantI S_ 32 0#32))) s

/-- Rows summed by segment. -/
def sums (s : IVec S16384 32) (u : FVec Ideal S16384x512 .f32) : FVec Ideal S16x512 .f32 :=
  Host.scatterAdd scatter_S16x512_S16384x1_S16384x512_1_0_0_1 (broadcastInDim S16x512 ![] bcast_S_S16x512 (constant S_ .f32 0x00000000#32)) (col s) u

/-- The rows of each segment, counted. -/
def counts (s : IVec S16384 32) : IVec S16 32 :=
  Host.scatter scatter_S16_S16384x1_S16384_n_0_0_1 IntOp.addi (broadcastInDim S16 ![] bcast_S_S16 (constantI S_ 32 0#32)) (col (wrap (clip s))) (words 1#32)

/-- The contexts, of the sums and the counts. -/
def ctxOf (A : FVec Ideal S16x512 .f32) (N : IVec S16 32) (w : FVec Ideal S512x512 .f32) : FVec Ideal S16x512 .f32 :=
  maximumf (Host.dotGeneral dot_S16x512_S512x512_S16x512_1_0_0_1_n_n none
    (Host.divf A (broadcastInDim S16x512 ![0, 1] bcast_S16x1_S16x512_0_1 (broadcastInDim S16x1 ![0] bcast_S16_S16x1_0
      (maximumf (sitofp .f32 N) (broadcastInDim S16 ![] bcast_S_S16 (constant S_ .f32 0x3F800000#32))))))
    (transpose S512x512 [1, 0] w transposes_S512x512_S512x512_1_0))
    (broadcastInDim S16x512 ![] bcast_S_S16x512 (constant S_ .f32 0x00000000#32))

/-- Each row's context. -/
def rowsOf (G : FVec Ideal S16x512 .f32) (s : IVec S16384 32) : FVec Ideal S16384x512 .f32 :=
  Host.gather gather_S16x512_S16384x1_S16384x512_1_0_n_n_0_1_1512 G (col (wrap s))

/-- The rows, gated against their contexts. -/
def gated (x R : FVec Ideal S16384x512 .f32) : FVec Ideal S16384x512 .f32 :=
  mulf (broadcastInDim S16384x512 ![0, 1] bcast_S16384x1_S16384x512_0_1 (broadcastInDim S16384x1 ![0] bcast_S16384_S16384x1_0
    (maximumf (Host.reduceAdd (mulf x R) (constant S_ .f32 0x00000000#32) reducesTo_S16384x512_S16384_d1 h_S_)
      (broadcastInDim S16384 ![] bcast_S_S16384 (constant S_ .f32 0x00000000#32))))) x

/-- The reference's result. -/
def result (x : FVec Ideal S16384x512 .f32) (s : IVec S16384 32) (w : FVec Ideal S512x512 .f32) : FVec Ideal S16x512 .f32 :=
  sums s (gated x (rowsOf (ctxOf (sums s x) (counts s) w) s))

/-! ## The ids -/

section Ids

variable {s : IVec S16384 32} (h : ∀ i, (s i).toNat < 16)

theorem col_at (r : Fin 16384) : col s (ValueIdx.ix2 r 0) = s (ix1 r) := by
  show col s (ix2 r 0) = _
  unfold col
  pointwise

include h

theorem wrap_eq : wrap s = s := by
  funext i
  show Scalar.select (IntOp.cmpi .slt (s i) 0#32) _ (s i) = s i
  exact Routing.wrap_of_lt _ _ (by have := h i; omega)

theorem clip_eq : clip s = s := by
  funext i
  have := h i
  have h0 : (s i).toInt = ((s i).toNat : ℤ) := BitVec.toInt_eq_toNat_of_lt (by omega)
  show IntOp.maxsi 0#32 (s i) = s i
  unfold IntOp.maxsi
  rw [if_neg fun e => ?_]
  rw [BitVec.slt_iff_toInt_lt, h0] at e
  exact absurd e (by simp)

theorem lands_iff (r : Fin 16384) (b : Fin 16) : ((col s (ValueIdx.ix2 r 0)).toInt = (b.val : ℤ)) ↔ (s (ix1 r)).toNat = b.val := by
  rw [col_at, Landing.toInt_eq_iff _ (h _)]

/-! ## The stages at an index -/

theorem sums_at (u : FVec Ideal S16384x512 .f32) (b : Fin 16) (j : Fin 512) :
    sums s u (ValueIdx.ix2 b j) = Spec.segSum (fun r => (s (ix1 r)).toNat) (fun r => u (ValueIdx.ix2 r j)) b := by
  refine (Landing.scatterAdd_rows scatter_S16x512_S16384x1_S16384x512_1_0_0_1 rfl rfl rfl rfl (col s) _ u b j).trans ?_
  have hz : (broadcastInDim S16x512 ![] bcast_S_S16x512 (constant (F := Ideal) S_ .f32 0x00000000#32)) (ValueIdx.ix2 b j) = (0 : EReal) := Ideal.ofBits_zero_f32
  rw [hz, zero_add]
  exact Finset.sum_congr rfl fun r _ => if_congr (lands_iff h r b) rfl rfl

theorem counts_at (b : Fin 16) :
    (((counts s (ValueIdx.ix1 b)).toInt : ℝ) : EReal) = Spec.segSum (fun r => (s (ix1 r)).toNat) (fun _ => 1) b := by
  unfold counts
  rw [clip_eq h, wrap_eq h,
    show Host.scatter scatter_S16_S16384x1_S16384_n_0_0_1 IntOp.addi (broadcastInDim S16 ![] bcast_S_S16 (constantI S_ 32 0#32)) (col s) (words 1#32) (ValueIdx.ix1 b) = _ from
      Landing.scatter_ones scatter_S16_S16384x1_S16384_n_0_0_1 rfl rfl rfl (col s) _ (fun _ => rfl) _ (fun _ => rfl) b]
  refine (Landing.count_real (by decide) _).trans ?_
  exact Finset.sum_congr rfl fun r _ => if_congr (lands_iff h r b) rfl rfl

omit h in
theorem ctxOf_at (A : FVec Ideal S16x512 .f32) (N : IVec S16 32) (w : FVec Ideal S512x512 .f32) (b : Fin 16) (j : Fin 512) :
    ctxOf A N w (ValueIdx.ix2 b j) = max (∑ k : Fin 512,
      Ideal.div (A (ValueIdx.ix2 b k)) (max (((N (ValueIdx.ix1 b)).toInt : ℝ) : EReal) 1) * w (ValueIdx.ix2 j k)) 0 := by
  show ctxOf A N w (ix2 b j) = _
  unfold ctxOf
  pointwise
  rfl

theorem rowsOf_at (G : FVec Ideal S16x512 .f32) (r : Fin 16384) (j : Fin 512) (b : Fin 16) (hb : (s (ix1 r)).toNat = b.val) :
    rowsOf G s (ValueIdx.ix2 r j) = G (ValueIdx.ix2 b j) := by
  unfold rowsOf
  rw [wrap_eq h]
  refine Routing.gather_row gather_S16x512_S16384x1_S16384x512_1_0_n_n_0_1_1512 rfl rfl rfl rfl rfl G (col s) r j b ?_ (by decide)
  rw [col_at, ← hb, BitVec.ofNat_toNat, BitVec.setWidth_eq]

omit h in
theorem gated_at (x R : FVec Ideal S16384x512 .f32) (r : Fin 16384) (j : Fin 512) :
    gated x R (ValueIdx.ix2 r j) = x (ValueIdx.ix2 r j) * max (∑ k : Fin 512, x (ValueIdx.ix2 r k) * R (ValueIdx.ix2 r k)) 0 := by
  show gated x R (ix2 r j) = _
  unfold gated
  pointwise
  exact mul_comm _ _

/-- The reference's result is the specification's. -/
theorem result_at (x : FVec Ideal S16384x512 .f32) (w : FVec Ideal S512x512 .f32) (b : Fin 16) (j : Fin 512) :
    result x s w (ValueIdx.ix2 b j)
      = Spec.out (fun r => (s (ix1 r)).toNat) (fun r k => x (ValueIdx.ix2 r k)) (fun i k => w (ValueIdx.ix2 i k)) b j := by
  unfold result Spec.out
  rw [sums_at h]
  unfold Spec.segSum
  refine Finset.sum_congr rfl fun r _ => ?_
  by_cases e : (s (ix1 r)).toNat = b.val
  · rw [if_pos e, if_pos e]
    beta_reduce
    rw [gated_at]
    simp only [rowsOf_at h _ r _ b e, ctxOf_at, sums_at h, counts_at h]
    rfl
  · rw [if_neg e, if_neg e]

end Ids

end Cert.ReferenceIdeal.Hand

end
-- ==== Proof.Algebraic.lean ====
/-
  Hand-written, untrusted. The kernel at extended reals and the reference end with the same result.
-/
module

public import proofs.«01_k».proof.Proof.Frames
public import proofs.«01_k».proof.Proof.Sums
public import proofs.«01_k».proof.Proof.RefValue

@[expose] public section

noncomputable section

namespace Cert.Proof

open Idealize.ShloMosaic Idealize.SL.Sem

/-- On arrays whose ids are in range, the reference's result is the kernel's. -/
theorem result_eq (m : (ℓ : Loc Cert.KernelIdeal.nD Cert.KernelIdeal.τ Cert.KernelIdeal.sig) → Buf (Elt Ideal) ℓ) (c : Dev Cert.KernelIdeal.nD)
    (h : ∀ i, (Cert.KernelIdeal.Hand.ids m c i : BitVec 32).toNat < 16) :
    Cert.ReferenceIdeal.Hand.result (Cert.KernelIdeal.Hand.feats m c) (Cert.KernelIdeal.Hand.ids m c) (Cert.KernelIdeal.Hand.wts m c)
      = Cert.KernelIdeal.Hand.outN m c 16 := by
  funext i
  rw [ValueIdx.eq_ix2 i]
  exact (Cert.ReferenceIdeal.Hand.result_at h _ _ (i 0) (i 1)).trans (Cert.KernelIdeal.Hand.out_at m c h (i 0) (i 1)).symm

theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := by
  intro m g m' g' hpre hargs
  refine ⟨fun c => Cert.KernelIdeal.Hand.outN m c 16, ?_, ?_⟩
  · exact (θ_run Cert.KernelIdeal.defs _ _).mono
      (fun _ h c => ⟨(h.1 c).2.2.2.2, (h.1 c).1, (h.1 c).2.1, (h.1 c).2.2.1, (h.1 c).2.2.2.1⟩)
      (Cert.KernelIdeal.Hand.run_result (F := Ideal) m g (range_kernelIdeal hpre))
  · refine (θ_run Cert.ReferenceIdeal.defs _ _).mono (fun _ h c => ⟨(h c).1.trans ?_, (h c).2⟩)
      (Cert.ReferenceIdeal.Value.run (F := Ideal) m' g')
    obtain ⟨e0, -, e2, e3⟩ := hargs c
    rw [e0, e2, e3]
    exact result_eq m c fun i => Cert.Range.id_lt (hpre c) i

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_in_range.Gen.facts,
  frame_kernel, frame_kernelIdeal, frame_reference, frame_reference_pre, trivial, algebraic⟩

end Cert.Proof

end
